-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x8192 : Shape := ⟨3, ![8, 3072, 8192]⟩
abbrev S8192x1280 : Shape := ⟨2, ![8192, 1280]⟩
abbrev S1280 : Shape := ⟨1, ![1280]⟩
abbrev S256x256 : Shape := ⟨2, ![256, 256]⟩
abbrev S24576x8192 : Shape := ⟨2, ![24576, 8192]⟩
abbrev S1x1280 : Shape := ⟨2, ![1, 1280]⟩
abbrev S24576x1280 : Shape := ⟨2, ![24576, 1280]⟩
abbrev S24576x1 : Shape := ⟨2, ![24576, 1]⟩
abbrev S256x8192 : Shape := ⟨2, ![256, 8192]⟩
abbrev S256x1280 : Shape := ⟨2, ![256, 1280]⟩
abbrev S256x1 : Shape := ⟨2, ![256, 1]⟩
abbrev S256x128 : Shape := ⟨2, ![256, 128]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S8x3072x8192, .bf16⟩
  | .hbm, ⟨1, _⟩ => ⟨S8192x1280, .i8⟩
  | .hbm, ⟨2, _⟩ => ⟨S1280, .f32⟩
  | .hbm, ⟨3, _⟩ => ⟨S256x256, .bf16⟩
  | .hbm, ⟨4, _⟩ => ⟨S24576x8192, .bf16⟩
  | .hbm, ⟨5, _⟩ => ⟨S1x1280, .f32⟩
  | .hbm, ⟨6, _⟩ => ⟨S24576x1280, .bf16⟩
  | .hbm, ⟨7, _⟩ => ⟨S24576x8192, .i8⟩
  | .hbm, ⟨8, _⟩ => ⟨S24576x1, .f32⟩
  | .local _ .vmem, ⟨0, _⟩ => ⟨S256x8192, .bf16⟩
  | .local _ .vmem, ⟨1, _⟩ => ⟨S256x8192, .bf16⟩
  | .local _ .vmem, ⟨2, _⟩ => ⟨S256x256, .bf16⟩
  | .local _ .vmem, ⟨3, _⟩ => ⟨S8192x1280, .i8⟩
  | .local _ .vmem, ⟨4, _⟩ => ⟨S1x1280, .f32⟩
  | .local _ .vmem, ⟨5, _⟩ => ⟨S256x1280, .bf16⟩
  | .local _ .vmem, ⟨6, _⟩ => ⟨S256x1280, .bf16⟩
  | .local _ .vmem, ⟨7, _⟩ => ⟨S256x8192, .i8⟩
  | .local _ .vmem, ⟨8, _⟩ => ⟨S256x8192, .i8⟩
  | .local _ .vmem, ⟨9, _⟩ => ⟨S256x1, .f32⟩
  | .local _ .vmem, ⟨10, _⟩ => ⟨S256x1, .f32⟩
  | .local _ .vmem, ⟨11, _⟩ => ⟨S256x8192, .f32⟩
  | .local _ .vmem, ⟨12, _⟩ => ⟨S256x128, .f32⟩
  | .local _ .vmem, ⟨13, _⟩ => ⟨S8192x1280, .bf16⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![97], ![false]⟩

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8192 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x3072x8192 : Shape := ⟨3, ![8, 3072, 8192]⟩
abbrev S8192x1280 : Shape := ⟨2, ![8192, 1280]⟩
abbrev S1280 : Shape := ⟨1, ![1280]⟩
abbrev S128x128 : Shape := ⟨2, ![128, 128]⟩
abbrev S24576x64x128 : Shape := ⟨3, ![24576, 64, 128]⟩
abbrev S24576x8192 : Shape := ⟨2, ![24576, 8192]⟩
abbrev S_ : Shape := ⟨0, ![]⟩
abbrev S24576 : Shape := ⟨1, ![24576]⟩
abbrev S24576x1 : Shape := ⟨2, ![24576, 1]⟩
abbrev S24576x8192x1 : Shape := ⟨3, ![24576, 8192, 1]⟩
abbrev S1x8192x1280 : Shape := ⟨3, ![1, 8192, 1280]⟩
abbrev S24576x8192x1280 : Shape := ⟨3, ![24576, 8192, 1280]⟩
abbrev S24576x1280 : Shape := ⟨2, ![24576, 1280]⟩
abbrev S1x1280 : Shape := ⟨2, ![1, 1280]⟩

abbrev nBuf : Space → Nat
  | .hbm => 51
  | .vmem => 0
  | .smem => 0
  | _ => 0

abbrev bufTy : (tb : Table) → Fin (tcTables nBuf tb) → BufTy
  | .hbm, ⟨0, _⟩ => ⟨S8x3072x8192, .bf16⟩
  | .hbm, ⟨1, _⟩ => ⟨S8192x1280, .i8⟩
  | .hbm, ⟨2, _⟩ => ⟨S1280, .f32⟩
  | .hbm, ⟨3, _⟩ => ⟨S128x128, .f32⟩
  | .hbm, ⟨4, _⟩ => ⟨S8x3072x8192, .f32⟩
  | .hbm, ⟨5, _⟩ => ⟨S24576x64x128, .f32⟩
  | .hbm, ⟨6, _⟩ => ⟨S24576x64x128, .f32⟩
  | .hbm, ⟨7, _⟩ => ⟨S24576x8192, .f32⟩
  | .hbm, ⟨8, _⟩ => ⟨S24576x8192, .f32⟩
  | .hbm, ⟨9, _⟩ => ⟨S_, .f32⟩
  | .hbm, ⟨10, _⟩ => ⟨S24576, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .i1⟩
  | .hbm, ⟨15, _⟩ => ⟨S_, .f32⟩
  | .hbm, ⟨16, _⟩ => ⟨S24576x1, .f32⟩
  | .hbm, ⟨17, _⟩ => ⟨S24576x1, .f32⟩
  | .hbm, ⟨18, _⟩ => ⟨S_, .f32⟩
  | .hbm, ⟨19, _⟩ => ⟨S_, .f32⟩
  | .hbm, ⟨20, _⟩ => ⟨S24576x1, .f32⟩
  | .hbm, ⟨21, _⟩ => ⟨S24576x1, .f32⟩
  | .hbm, ⟨22, _⟩ => ⟨S24576x8192, .f32⟩
  | .hbm, ⟨23, _⟩ => ⟨S24576x8192, .f32⟩
  | .hbm, ⟨24, _⟩ => ⟨S24576x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S24576x8192, .f32⟩
  | .hbm, ⟨29, _⟩ => ⟨S24576x8192, .f32⟩
  | .hbm, ⟨30, _⟩ => ⟨S_, .f32⟩
  | .hbm, ⟨31, _⟩ => ⟨S24576x8192, .f32⟩
  | .hbm, ⟨32, _⟩ => ⟨S24576x8192, .f32⟩
  | .hbm, ⟨33, _⟩ => ⟨S24576x8192, .i32⟩
  | .hbm, ⟨34, _⟩ => ⟨S24576x8192, .i8⟩
  | .hbm, ⟨35, _⟩ => ⟨S24576x8192, .i32⟩
  | .hbm, ⟨36, _⟩ => ⟨S24576x8192x1, .i32⟩
  | .hbm, ⟨37, _⟩ => ⟨S8192x1280, .i32⟩
  | .hbm, ⟨38, _⟩ => ⟨S1x8192x1280, .i32⟩
  | .hbm, ⟨39, _⟩ => ⟨S24576x8192x1280, .i32⟩
  | .hbm, ⟨40, _⟩ => ⟨S24576x8192x1280, .i32⟩
  | .hbm, ⟨41, _⟩ => ⟨S24576x8192x1280, .i32⟩
  | .hbm, ⟨42, _⟩ => ⟨S_, .i32⟩
  | .hbm, ⟨43, _⟩ => ⟨S24576x1280, .i32⟩
  | .hbm, ⟨44, _⟩ => ⟨S24576x1280, .f32⟩
  | .hbm, ⟨45, _⟩ => ⟨S24576x1280, .f32⟩
  | .hbm, ⟨46, _⟩ => ⟨S24576x1280, .f32⟩
  | .hbm, ⟨47, _⟩ => ⟨S1x1280, .f32⟩
  | .hbm, ⟨48, _⟩ => ⟨S24576x1280, .f32⟩
  | .hbm, ⟨49, _⟩ => ⟨S24576x1280, .f32⟩
  | .hbm, ⟨50, _⟩ => ⟨S24576x1280, .bf16⟩
  | _, _ => ⟨S8x3072x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_cst_5 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Proof.Chain.lean ====
/-
  The chunks of one grid point: its reads, its running sum of products and its running largest magnitude, each as a
  chain over the 32 chunks of 256 columns.
-/
module

public import proofs.«01_k».proof.Proof.Gen.KernelIdeal.Value
public import Idealize.ShloMosaic.Lib.Pointwise
public import Idealize.ShloMosaic.Lib.WholeRead

@[expose] public section

set_option maxRecDepth 16384

noncomputable section

namespace Cert.Chain

open Cert.KernelIdeal Cert.KernelIdeal.Gen Idealize.ShloMosaic Idealize.ShloMosaic.TcCoe Idealize.SL.Sem

/-- Chunk `k` of a row block: its columns `256 k … 256 k + 255`. -/
def chunk {e : EltTy} (X : Vec Ideal S256x8192 e) (k : ℕ) : Vec Ideal S256x256 e :=
  fun y => X (ix2 (y 0) ⟨(256 * k + (y 1 : ℕ)) % 8192, Nat.mod_lt _ (by decide)⟩)

/-- Chunk `k` of the weights: their rows `256 k … 256 k + 255`. -/
def wchunk (W : Vec Ideal S8192x1280 .bf16) (k : ℕ) : Vec Ideal S256x1280 .bf16 :=
  fun y => W (ix2 ⟨(256 * k + (y 0 : ℕ)) % 8192, Nat.mod_lt _ (by decide)⟩ (y 1))

/-- A whole buffer read at chunk `k`. -/
theorem read_chunk {e : EltTy} {a : Memref sig .tc .vmem S256x8192 e} (ha : a.IsWhole) (X : Vec Ideal S256x8192 e) (k : ℕ)
    (hk : k < 32) (inb) :
    View.readAt (Elt Ideal) a.view (Rect.unit (s := S256x8192) ![0, 256 * k] S256x256.size inb).toLoadRect (ha.unread X) = chunk X k := by
  funext y
  have h1 := (y 1).2
  change (y 1 : ℕ) < 256 at h1
  rw [Memref.IsWhole.readAt_unread]
  unfold chunk
  congr 1
  funext d
  refine Fin.ext ?_
  fin_cases d
  · simp [ix2, LoadRect.idx, Rect.toLoadRect, Rect.unit]
  · simp [ix2, LoadRect.idx, Rect.toLoadRect, Rect.unit]
    omega

/-- The weights read at chunk `k`. -/
theorem read_wchunk {a : Memref sig .tc .vmem S8192x1280 .bf16} (ha : a.IsWhole) (W : Vec Ideal S8192x1280 .bf16) (k : ℕ)
    (hk : k < 32) (inb) :
    View.readAt (Elt Ideal) a.view (Rect.unit (s := S8192x1280) ![256 * k, 0] S256x1280.size inb).toLoadRect (ha.unread W) = wchunk W k := by
  funext y
  have h1 := (y 0).2
  change (y 0 : ℕ) < 256 at h1
  rw [Memref.IsWhole.readAt_unread]
  unfold wchunk
  congr 1
  funext d
  refine Fin.ext ?_
  fin_cases d
  · simp [ix2, LoadRect.idx, Rect.toLoadRect, Rect.unit]
    omega
  · simp [ix2, LoadRect.idx, Rect.toLoadRect, Rect.unit]

/-- A whole buffer read in full. -/
theorem read_full {s : Shape} {e : EltTy} {a : Memref sig .tc .vmem s e} (ha : a.IsWhole) (X : Vec Ideal s e) {off : Fin s.rank → ℕ} (h0 : ∀ d, off d = 0)
    (inb) :
    View.readAt (Elt Ideal) a.view (Rect.unit (s := s) off s.size inb).toLoadRect (ha.unread X) = X := by
  funext y
  rw [Memref.IsWhole.readAt_unread]
  congr 1
  funext d
  refine Fin.ext ?_
  simp [LoadRect.idx, Rect.toLoadRect, Rect.unit, h0]

/-- The codes of chunk `k` from the rotated rows and their scales, -/
def codesAt (R : Vec Ideal S256x8192 .f32) (S : Vec Ideal S256x128 .f32) (k : ℕ) : IVec S256x256 8 :=
  k0_pay17 (k0_pay5 S) (chunk R k)

/-- the running sum of their products with the weights, after chunk `n`, -/
def accAt (R : Vec Ideal S256x8192 .f32) (S : Vec Ideal S256x128 .f32) (W : Vec Ideal S8192x1280 .bf16) :
    ℕ → FVec Ideal S256x1280 .f32
  | 0 => k0_pay18 (k0_pay5 S) (chunk R 0) (wchunk W 0)
  | n + 1 => addf (accAt R S W n) (k0_pay18 (k0_pay5 S) (chunk R (n + 1)) (wchunk W (n + 1)))

/-- chunk `k` of the rotated tokens, -/
def rotAt (X : Vec Ideal S256x8192 .bf16) (H : Vec Ideal S256x256 .bf16) (k : ℕ) : FVec Ideal S256x256 .f32 :=
  k0_pay8 H (chunk X k)

/-- and the running largest magnitude, lane by lane, after chunk `n`. -/
def maxAt (X : Vec Ideal S256x8192 .bf16) (H : Vec Ideal S256x256 .bf16) : ℕ → FVec Ideal S256x256 .f32
  | 0 => absf (rotAt X H 0)
  | n + 1 => maximumf (maxAt X H n) (absf (rotAt X H (n + 1)))

section Steps

variable {arg1 : Memref sig .tc .vmem S256x8192 .bf16} (harg1 : arg1.IsWhole)
  {arg2 : Memref sig .tc .vmem S256x256 .bf16} (harg2 : arg2.IsWhole)
  {arg8 : Memref sig .tc .vmem S256x8192 .f32} (harg8 : arg8.IsWhole)
  {arg9 : Memref sig .tc .vmem S256x128 .f32} (harg9 : arg9.IsWhole)
  {arg10 : Memref sig .tc .vmem S8192x1280 .bf16} (harg10 : arg10.IsWhole)
  (c : Dev nD) (x0 : Vec Ideal S256x8192 .bf16) (x1 : Vec Ideal S256x256 .bf16)
  (xs0 : Vec Ideal S256x8192 .f32) (xs1 : Vec Ideal S256x128 .f32) (xs2 : Vec Ideal S8192x1280 .bf16)

/-- The codes of a chunk read from the two buffers. -/
theorem codes_read (k : ℕ) (hk : k < 32) (inb inb') :
    k0_pay17 (k0_pay5 (View.readAt (Elt Ideal) arg9.view (Rect.unit (s := S256x128) ![0, 0] S256x128.size inb').toLoadRect (harg9.unread xs1)))
      (View.readAt (Elt Ideal) arg8.view (Rect.unit (s := S256x8192) ![0, 256 * k] S256x256.size inb).toLoadRect (harg8.unread xs0))
    = codesAt xs0 xs1 k := by
  rw [read_full harg9 xs1 (off := ![0, 0]) (by intro d; fin_cases d <;> rfl), read_chunk harg8 xs0 k hk]
  rfl

/-- A chunk rotated, read from the two buffers. -/
theorem rot_read (k : ℕ) (hk : k < 32) (inb inb') :
    k0_pay8 (View.readAt (Elt Ideal) arg2.view (Rect.unit (s := S256x256) ![0, 0] S256x256.size inb').toLoadRect (harg2.unread x1))
      (View.readAt (Elt Ideal) arg1.view (Rect.unit (s := S256x8192) ![0, 256 * k] S256x256.size inb).toLoadRect (harg1.unread x0))
    = rotAt x0 x1 k := by
  rw [read_full harg2 x1 (off := ![0, 0]) (by intro d; fin_cases d <;> rfl), read_chunk harg1 x0 k hk]
  rfl

/-- One more chunk into the running sum. -/
theorem acc_step (n : ℕ) {acc : FVec Ideal S256x1280 .f32} (ha : acc = accAt xs0 xs1 xs2 n)
    {q : IVec S256x256 8} (hq : q = codesAt xs0 xs1 (n + 1)) {w : FVec Ideal S256x1280 .bf16} (hw : w = wchunk xs2 (n + 1)) :
    addf acc (matmul dot_S256x256_S256x1280_S256x1280_1_0_0_1_n_n none (sitofp .bf16 q : FVec Ideal S256x256 .bf16) w
      (constant S256x1280 .f32 0x00000000#32)) = accAt xs0 xs1 xs2 (n + 1) := by
  subst ha hq hw
  rfl

/-- One more chunk into the running largest magnitude. -/
theorem max_step (n : ℕ) {a : FVec Ideal S256x256 .f32} (ha : a = maxAt x0 x1 n)
    {v : FVec Ideal S256x256 .f32} (hv : v = rotAt x0 x1 (n + 1)) :
    maximumf a (absf v) = maxAt x0 x1 (n + 1) := by
  subst ha hv
  rfl

/-- The running sum after chunk 0. -/
theorem sum_0 : kernelRun0_B.sl.r_3 c arg8 harg8 arg9 harg9 arg10 harg10 xs0 xs1 xs2 = accAt xs0 xs1 xs2 0 := by
  have h := read_wchunk harg10 xs2 0 (by decide) inb_S8192x1280_S256x1280_0_0
  have h' := codes_read harg8 harg9 xs0 xs1 0 (by decide) inb_S256x8192_S256x256_0_0 inb_S256x128_S256x128_0_0
  change matmul dot_S256x256_S256x1280_S256x1280_1_0_0_1_n_n none (sitofp .bf16 (k0_pay17 (k0_pay5 (View.readAt (Elt Ideal) arg9.view (Rect.unit (s := S256x128) ![0, 0] S256x128.size _).toLoadRect (harg9.unread xs1))) (View.readAt (Elt Ideal) arg8.view (Rect.unit (s := S256x8192) ![0, 256 * 0] S256x256.size _).toLoadRect (harg8.unread xs0))) : FVec Ideal S256x256 .bf16) (View.readAt (Elt Ideal) arg10.view (Rect.unit (s := S8192x1280) ![256 * 0, 0] S256x1280.size _).toLoadRect (harg10.unread xs2) : FVec Ideal S256x1280 .bf16) (constant S256x1280 .f32 0x00000000#32) = _
  rw [h, h']
  rfl

/-- The running sum after chunk 1. -/
theorem sum_1 : kernelRun0_B.sl.r_6 c arg8 harg8 arg9 harg9 arg10 harg10 xs0 xs1 xs2 = accAt xs0 xs1 xs2 1 := by
  unfold kernelRun0_B.sl.r_6 k0_pay13
  exact (acc_step xs0 xs1 xs2 0 (sum_0 harg8 harg9 harg10 c xs0 xs1 xs2) (codes_read harg8 harg9 xs0 xs1 1 (by decide) _ _) (read_wchunk harg10 xs2 1 (by decide) _))

/-- The running sum after chunk 3. -/
theorem sum_3 : kernelRun0_B.sl.r_9 c arg8 harg8 arg9 harg9 arg10 harg10 xs0 xs1 xs2 = accAt xs0 xs1 xs2 3 := by
  unfold kernelRun0_B.sl.r_9 k0_pay22
  exact (acc_step xs0 xs1 xs2 2 (acc_step xs0 xs1 xs2 1 (sum_1 harg8 harg9 harg10 c xs0 xs1 xs2) (codes_read harg8 harg9 xs0 xs1 2 (by decide) _ _) (read_wchunk harg10 xs2 2 (by decide) _)) (codes_read harg8 harg9 xs0 xs1 3 (by decide) _ _) (read_wchunk harg10 xs2 3 (by decide) _))

/-- The running sum after chunk 4. -/
theorem sum_4 : kernelRun0_B.sl.r_11 c arg8 harg8 arg9 harg9 arg10 harg10 xs0 xs1 xs2 = accAt xs0 xs1 xs2 4 := by
  unfold kernelRun0_B.sl.r_11 k0_pay27
  exact (acc_step xs0 xs1 xs2 3 (sum_3 harg8 harg9 harg10 c xs0 xs1 xs2) (codes_read harg8 harg9 xs0 xs1 4 (by decide) _ _) (read_wchunk harg10 xs2 4 (by decide) _))

/-- The running sum after chunk 6. -/
theorem sum_6 : kernelRun0_B.sl.r_15 c arg8 harg8 arg9 harg9 arg10 harg10 xs0 xs1 xs2 = accAt xs0 xs1 xs2 6 := by
  unfold kernelRun0_B.sl.r_15 k0_pay37
  exact (acc_step xs0 xs1 xs2 5 (acc_step xs0 xs1 xs2 4 (sum_4 harg8 harg9 harg10 c xs0 xs1 xs2) (codes_read harg8 harg9 xs0 xs1 5 (by decide) _ _) (read_wchunk harg10 xs2 5 (by decide) _)) (codes_read harg8 harg9 xs0 xs1 6 (by decide) _ _) (read_wchunk harg10 xs2 6 (by decide) _))

/-- The running sum after chunk 7. -/
theorem sum_7 : kernelRun0_B.sl.r_17 c arg8 harg8 arg9 harg9 arg10 harg10 xs0 xs1 xs2 = accAt xs0 xs1 xs2 7 := by
  unfold kernelRun0_B.sl.r_17 k0_pay41
  exact (acc_step xs0 xs1 xs2 6 (sum_6 harg8 harg9 harg10 c xs0 xs1 xs2) (codes_read harg8 harg9 xs0 xs1 7 (by decide) _ _) (read_wchunk harg10 xs2 7 (by decide) _))

/-- The running sum after chunk 9. -/
theorem sum_9 : kernelRun0_B.sl.r_21 c arg8 harg8 arg9 harg9 arg10 harg10 xs0 xs1 xs2 = accAt xs0 xs1 xs2 9 := by
  unfold kernelRun0_B.sl.r_21 k0_pay50
  exact (acc_step xs0 xs1 xs2 8 (acc_step xs0 xs1 xs2 7 (sum_7 harg8 harg9 harg10 c xs0 xs1 xs2) (codes_read harg8 harg9 xs0 xs1 8 (by decide) _ _) (read_wchunk harg10 xs2 8 (by decide) _)) (codes_read harg8 harg9 xs0 xs1 9 (by decide) _ _) (read_wchunk harg10 xs2 9 (by decide) _))

/-- The running sum after chunk 10. -/
theorem sum_10 : kernelRun0_B.sl.r_23 c arg8 harg8 arg9 harg9 arg10 harg10 xs0 xs1 xs2 = accAt xs0 xs1 xs2 10 := by
  unfold kernelRun0_B.sl.r_23 k0_pay54
  exact (acc_step xs0 xs1 xs2 9 (sum_9 harg8 harg9 harg10 c xs0 xs1 xs2) (codes_read harg8 harg9 xs0 xs1 10 (by decide) _ _) (read_wchunk harg10 xs2 10 (by decide) _))

/-- The running sum after chunk 12. -/
theorem sum_12 : kernelRun0_B.sl.r_27 c arg8 harg8 arg9 harg9 arg10 harg10 xs0 xs1 xs2 = accAt xs0 xs1 xs2 12 := by
  unfold kernelRun0_B.sl.r_27 k0_pay63
  exact (acc_step xs0 xs1 xs2 11 (acc_step xs0 xs1 xs2 10 (sum_10 harg8 harg9 harg10 c xs0 xs1 xs2) (codes_read harg8 harg9 xs0 xs1 11 (by decide) _ _) (read_wchunk harg10 xs2 11 (by decide) _)) (codes_read harg8 harg9 xs0 xs1 12 (by decide) _ _) (read_wchunk harg10 xs2 12 (by decide) _))

/-- The running sum after chunk 13. -/
theorem sum_13 : kernelRun0_B.sl.r_29 c arg8 harg8 arg9 harg9 arg10 harg10 xs0 xs1 xs2 = accAt xs0 xs1 xs2 13 := by
  unfold kernelRun0_B.sl.r_29 k0_pay67
  exact (acc_step xs0 xs1 xs2 12 (sum_12 harg8 harg9 harg10 c xs0 xs1 xs2) (codes_read harg8 harg9 xs0 xs1 13 (by decide) _ _) (read_wchunk harg10 xs2 13 (by decide) _))

/-- The running sum after chunk 15. -/
theorem sum_15 : kernelRun0_B.sl.r_33 c arg8 harg8 arg9 harg9 arg10 harg10 xs0 xs1 xs2 = accAt xs0 xs1 xs2 15 := by
  unfold kernelRun0_B.sl.r_33 k0_pay77
  exact (acc_step xs0 xs1 xs2 14 (acc_step xs0 xs1 xs2 13 (sum_13 harg8 harg9 harg10 c xs0 xs1 xs2) (codes_read harg8 harg9 xs0 xs1 14 (by decide) _ _) (read_wchunk harg10 xs2 14 (by decide) _)) (codes_read harg8 harg9 xs0 xs1 15 (by decide) _ _) (read_wchunk harg10 xs2 15 (by decide) _))

/-- The running sum after chunk 16. -/
theorem sum_16 : kernelRun0_B.sl.r_35 c arg8 harg8 arg9 harg9 arg10 harg10 xs0 xs1 xs2 = accAt xs0 xs1 xs2 16 := by
  unfold kernelRun0_B.sl.r_35 k0_pay82
  exact (acc_step xs0 xs1 xs2 15 (sum_15 harg8 harg9 harg10 c xs0 xs1 xs2) (codes_read harg8 harg9 xs0 xs1 16 (by decide) _ _) (read_wchunk harg10 xs2 16 (by decide) _))

/-- The running sum after chunk 18. -/
theorem sum_18 : kernelRun0_B.sl.r_39 c arg8 harg8 arg9 harg9 arg10 harg10 xs0 xs1 xs2 = accAt xs0 xs1 xs2 18 := by
  unfold kernelRun0_B.sl.r_39 k0_pay92
  exact (acc_step xs0 xs1 xs2 17 (acc_step xs0 xs1 xs2 16 (sum_16 harg8 harg9 harg10 c xs0 xs1 xs2) (codes_read harg8 harg9 xs0 xs1 17 (by decide) _ _) (read_wchunk harg10 xs2 17 (by decide) _)) (codes_read harg8 harg9 xs0 xs1 18 (by decide) _ _) (read_wchunk harg10 xs2 18 (by decide) _))

/-- The running sum after chunk 19. -/
theorem sum_19 : kernelRun0_B.sl.r_41 c arg8 harg8 arg9 harg9 arg10 harg10 xs0 xs1 xs2 = accAt xs0 xs1 xs2 19 := by
  unfold kernelRun0_B.sl.r_41 k0_pay96
  exact (acc_step xs0 xs1 xs2 18 (sum_18 harg8 harg9 harg10 c xs0 xs1 xs2) (codes_read harg8 harg9 xs0 xs1 19 (by decide) _ _) (read_wchunk harg10 xs2 19 (by decide) _))

/-- The running sum after chunk 21. -/
theorem sum_21 : kernelRun0_B.sl.r_45 c arg8 harg8 arg9 harg9 arg10 harg10 xs0 xs1 xs2 = accAt xs0 xs1 xs2 21 := by
  unfold kernelRun0_B.sl.r_45 k0_pay106
  exact (acc_step xs0 xs1 xs2 20 (acc_step xs0 xs1 xs2 19 (sum_19 harg8 harg9 harg10 c xs0 xs1 xs2) (codes_read harg8 harg9 xs0 xs1 20 (by decide) _ _) (read_wchunk harg10 xs2 20 (by decide) _)) (codes_read harg8 harg9 xs0 xs1 21 (by decide) _ _) (read_wchunk harg10 xs2 21 (by decide) _))

/-- The running sum after chunk 22. -/
theorem sum_22 : kernelRun0_B.sl.r_46 c arg8 harg8 arg9 harg9 arg10 harg10 xs0 xs1 xs2 = accAt xs0 xs1 xs2 22 := by
  unfold kernelRun0_B.sl.r_46 k0_pay110
  exact (acc_step xs0 xs1 xs2 21 (sum_21 harg8 harg9 harg10 c xs0 xs1 xs2) (codes_read harg8 harg9 xs0 xs1 22 (by decide) _ _) (read_wchunk harg10 xs2 22 (by decide) _))

/-- The running sum after chunk 23. -/
theorem sum_23 : kernelRun0_B.sl.r_48 c arg8 harg8 arg9 harg9 arg10 harg10 xs0 xs1 xs2 = accAt xs0 xs1 xs2 23 := by
  unfold kernelRun0_B.sl.r_48 k0_pay115
  exact (acc_step xs0 xs1 xs2 22 (sum_22 harg8 harg9 harg10 c xs0 xs1 xs2) (codes_read harg8 harg9 xs0 xs1 23 (by decide) _ _) (read_wchunk harg10 xs2 23 (by decide) _))

/-- The running sum after chunk 25. -/
theorem sum_25 : kernelRun0_B.sl.r_53 c arg8 harg8 arg9 harg9 arg10 harg10 xs0 xs1 xs2 = accAt xs0 xs1 xs2 25 := by
  unfold kernelRun0_B.sl.r_53 k0_pay125
  exact (acc_step xs0 xs1 xs2 24 (acc_step xs0 xs1 xs2 23 (sum_23 harg8 harg9 harg10 c xs0 xs1 xs2) (codes_read harg8 harg9 xs0 xs1 24 (by decide) _ _) (read_wchunk harg10 xs2 24 (by decide) _)) (codes_read harg8 harg9 xs0 xs1 25 (by decide) _ _) (read_wchunk harg10 xs2 25 (by decide) _))

/-- The running sum after chunk 26. -/
theorem sum_26 : kernelRun0_B.sl.r_55 c arg8 harg8 arg9 harg9 arg10 harg10 xs0 xs1 xs2 = accAt xs0 xs1 xs2 26 := by
  unfold kernelRun0_B.sl.r_55 k0_pay130
  exact (acc_step xs0 xs1 xs2 25 (sum_25 harg8 harg9 harg10 c xs0 xs1 xs2) (codes_read harg8 harg9 xs0 xs1 26 (by decide) _ _) (read_wchunk harg10 xs2 26 (by decide) _))

/-- The running sum after chunk 28. -/
theorem sum_28 : kernelRun0_B.sl.r_59 c arg8 harg8 arg9 harg9 arg10 harg10 xs0 xs1 xs2 = accAt xs0 xs1 xs2 28 := by
  unfold kernelRun0_B.sl.r_59 k0_pay140
  exact (acc_step xs0 xs1 xs2 27 (acc_step xs0 xs1 xs2 26 (sum_26 harg8 harg9 harg10 c xs0 xs1 xs2) (codes_read harg8 harg9 xs0 xs1 27 (by decide) _ _) (read_wchunk harg10 xs2 27 (by decide) _)) (codes_read harg8 harg9 xs0 xs1 28 (by decide) _ _) (read_wchunk harg10 xs2 28 (by decide) _))

/-- The running sum after chunk 29. -/
theorem sum_29 : kernelRun0_B.sl.r_61 c arg8 harg8 arg9 harg9 arg10 harg10 xs0 xs1 xs2 = accAt xs0 xs1 xs2 29 := by
  unfold kernelRun0_B.sl.r_61 k0_pay144
  exact (acc_step xs0 xs1 xs2 28 (sum_28 harg8 harg9 harg10 c xs0 xs1 xs2) (codes_read harg8 harg9 xs0 xs1 29 (by decide) _ _) (read_wchunk harg10 xs2 29 (by decide) _))

/-- The running sum after chunk 31. -/
theorem sum_31 : kernelRun0_B.sl.r_65 c arg8 harg8 arg9 harg9 arg10 harg10 xs0 xs1 xs2 = accAt xs0 xs1 xs2 31 := by
  unfold kernelRun0_B.sl.r_65 k0_pay153
  exact (acc_step xs0 xs1 xs2 30 (acc_step xs0 xs1 xs2 29 (sum_29 harg8 harg9 harg10 c xs0 xs1 xs2) (codes_read harg8 harg9 xs0 xs1 30 (by decide) _ _) (read_wchunk harg10 xs2 30 (by decide) _)) (codes_read harg8 harg9 xs0 xs1 31 (by decide) _ _) (read_wchunk harg10 xs2 31 (by decide) _))

/-- The running largest magnitude after chunk 0. -/
theorem max_0 : kernelRun0_B.sl.r_4 c arg1 harg1 arg2 harg2 x0 x1 = maxAt x0 x1 0 := congrArg absf (rot_read harg1 harg2 x0 x1 0 (by decide) _ _)

/-- The running largest magnitude after chunk 1. -/
theorem max_1 : kernelRun0_B.sl.r_7 c arg1 harg1 arg2 harg2 x0 x1 = maxAt x0 x1 1 := by
  unfold kernelRun0_B.sl.r_7 k0_pay16
  exact (max_step x0 x1 0 (max_0 harg1 harg2 c x0 x1) (rot_read harg1 harg2 x0 x1 1 (by decide) _ _))

/-- The running largest magnitude after chunk 3. -/
theorem max_3 : kernelRun0_B.sl.r_10 c arg1 harg1 arg2 harg2 x0 x1 = maxAt x0 x1 3 := by
  unfold kernelRun0_B.sl.r_10 k0_pay25
  exact (max_step x0 x1 2 (max_step x0 x1 1 (max_1 harg1 harg2 c x0 x1) (rot_read harg1 harg2 x0 x1 2 (by decide) _ _)) (rot_read harg1 harg2 x0 x1 3 (by decide) _ _))

/-- The running largest magnitude after chunk 4. -/
theorem max_4 : kernelRun0_B.sl.r_12 c arg1 harg1 arg2 harg2 x0 x1 = maxAt x0 x1 4 := by
  unfold kernelRun0_B.sl.r_12 k0_pay30
  exact (max_step x0 x1 3 (max_3 harg1 harg2 c x0 x1) (rot_read harg1 harg2 x0 x1 4 (by decide) _ _))

/-- The running largest magnitude after chunk 5. -/
theorem max_5 : kernelRun0_B.sl.r_14 c arg1 harg1 arg2 harg2 x0 x1 = maxAt x0 x1 5 := by
  unfold kernelRun0_B.sl.r_14 k0_pay35
  exact (max_step x0 x1 4 (max_4 harg1 harg2 c x0 x1) (rot_read harg1 harg2 x0 x1 5 (by decide) _ _))

/-- The running largest magnitude after chunk 7. -/
theorem max_7 : kernelRun0_B.sl.r_18 c arg1 harg1 arg2 harg2 x0 x1 = maxAt x0 x1 7 := by
  unfold kernelRun0_B.sl.r_18 k0_pay44
  exact (max_step x0 x1 6 (max_step x0 x1 5 (max_5 harg1 harg2 c x0 x1) (rot_read harg1 harg2 x0 x1 6 (by decide) _ _)) (rot_read harg1 harg2 x0 x1 7 (by decide) _ _))

/-- The running largest magnitude after chunk 8. -/
theorem max_8 : kernelRun0_B.sl.r_20 c arg1 harg1 arg2 harg2 x0 x1 = maxAt x0 x1 8 := by
  unfold kernelRun0_B.sl.r_20 k0_pay48
  exact (max_step x0 x1 7 (max_7 harg1 harg2 c x0 x1) (rot_read harg1 harg2 x0 x1 8 (by decide) _ _))

/-- The running largest magnitude after chunk 10. -/
theorem max_10 : kernelRun0_B.sl.r_24 c arg1 harg1 arg2 harg2 x0 x1 = maxAt x0 x1 10 := by
  unfold kernelRun0_B.sl.r_24 k0_pay57
  exact (max_step x0 x1 9 (max_step x0 x1 8 (max_8 harg1 harg2 c x0 x1) (rot_read harg1 harg2 x0 x1 9 (by decide) _ _)) (rot_read harg1 harg2 x0 x1 10 (by decide) _ _))

/-- The running largest magnitude after chunk 11. -/
theorem max_11 : kernelRun0_B.sl.r_26 c arg1 harg1 arg2 harg2 x0 x1 = maxAt x0 x1 11 := by
  unfold kernelRun0_B.sl.r_26 k0_pay61
  exact (max_step x0 x1 10 (max_10 harg1 harg2 c x0 x1) (rot_read harg1 harg2 x0 x1 11 (by decide) _ _))

/-- The running largest magnitude after chunk 13. -/
theorem max_13 : kernelRun0_B.sl.r_30 c arg1 harg1 arg2 harg2 x0 x1 = maxAt x0 x1 13 := by
  unfold kernelRun0_B.sl.r_30 k0_pay70
  exact (max_step x0 x1 12 (max_step x0 x1 11 (max_11 harg1 harg2 c x0 x1) (rot_read harg1 harg2 x0 x1 12 (by decide) _ _)) (rot_read harg1 harg2 x0 x1 13 (by decide) _ _))

/-- The running largest magnitude after chunk 14. -/
theorem max_14 : kernelRun0_B.sl.r_32 c arg1 harg1 arg2 harg2 x0 x1 = maxAt x0 x1 14 := by
  unfold kernelRun0_B.sl.r_32 k0_pay75
  exact (max_step x0 x1 13 (max_13 harg1 harg2 c x0 x1) (rot_read harg1 harg2 x0 x1 14 (by decide) _ _))

/-- The running largest magnitude after chunk 16. -/
theorem max_16 : kernelRun0_B.sl.r_36 c arg1 harg1 arg2 harg2 x0 x1 = maxAt x0 x1 16 := by
  unfold kernelRun0_B.sl.r_36 k0_pay85
  exact (max_step x0 x1 15 (max_step x0 x1 14 (max_14 harg1 harg2 c x0 x1) (rot_read harg1 harg2 x0 x1 15 (by decide) _ _)) (rot_read harg1 harg2 x0 x1 16 (by decide) _ _))

/-- The running largest magnitude after chunk 17. -/
theorem max_17 : kernelRun0_B.sl.r_38 c arg1 harg1 arg2 harg2 x0 x1 = maxAt x0 x1 17 := by
  unfold kernelRun0_B.sl.r_38 k0_pay90
  exact (max_step x0 x1 16 (max_16 harg1 harg2 c x0 x1) (rot_read harg1 harg2 x0 x1 17 (by decide) _ _))

/-- The running largest magnitude after chunk 19. -/
theorem max_19 : kernelRun0_B.sl.r_42 c arg1 harg1 arg2 harg2 x0 x1 = maxAt x0 x1 19 := by
  unfold kernelRun0_B.sl.r_42 k0_pay99
  exact (max_step x0 x1 18 (max_step x0 x1 17 (max_17 harg1 harg2 c x0 x1) (rot_read harg1 harg2 x0 x1 18 (by decide) _ _)) (rot_read harg1 harg2 x0 x1 19 (by decide) _ _))

/-- The running largest magnitude after chunk 20. -/
theorem max_20 : kernelRun0_B.sl.r_44 c arg1 harg1 arg2 harg2 x0 x1 = maxAt x0 x1 20 := by
  unfold kernelRun0_B.sl.r_44 k0_pay104
  exact (max_step x0 x1 19 (max_19 harg1 harg2 c x0 x1) (rot_read harg1 harg2 x0 x1 20 (by decide) _ _))

/-- The running largest magnitude after chunk 22. -/
theorem max_22 : kernelRun0_B.sl.r_47 c arg1 harg1 arg2 harg2 x0 x1 = maxAt x0 x1 22 := by
  unfold kernelRun0_B.sl.r_47 k0_pay113
  exact (max_step x0 x1 21 (max_step x0 x1 20 (max_20 harg1 harg2 c x0 x1) (rot_read harg1 harg2 x0 x1 21 (by decide) _ _)) (rot_read harg1 harg2 x0 x1 22 (by decide) _ _))

/-- The running largest magnitude after chunk 23. -/
theorem max_23 : kernelRun0_B.sl.r_49 c arg1 harg1 arg2 harg2 x0 x1 = maxAt x0 x1 23 := by
  unfold kernelRun0_B.sl.r_49 k0_pay118
  exact (max_step x0 x1 22 (max_22 harg1 harg2 c x0 x1) (rot_read harg1 harg2 x0 x1 23 (by decide) _ _))

/-- The running largest magnitude after chunk 24. -/
theorem max_24 : kernelRun0_B.sl.r_52 c arg1 harg1 arg2 harg2 x0 x1 = maxAt x0 x1 24 := by
  unfold kernelRun0_B.sl.r_52 k0_pay123
  exact (max_step x0 x1 23 (max_23 harg1 harg2 c x0 x1) (rot_read harg1 harg2 x0 x1 24 (by decide) _ _))

/-- The running largest magnitude after chunk 26. -/
theorem max_26 : kernelRun0_B.sl.r_56 c arg1 harg1 arg2 harg2 x0 x1 = maxAt x0 x1 26 := by
  unfold kernelRun0_B.sl.r_56 k0_pay133
  exact (max_step x0 x1 25 (max_step x0 x1 24 (max_24 harg1 harg2 c x0 x1) (rot_read harg1 harg2 x0 x1 25 (by decide) _ _)) (rot_read harg1 harg2 x0 x1 26 (by decide) _ _))

/-- The running largest magnitude after chunk 27. -/
theorem max_27 : kernelRun0_B.sl.r_58 c arg1 harg1 arg2 harg2 x0 x1 = maxAt x0 x1 27 := by
  unfold kernelRun0_B.sl.r_58 k0_pay138
  exact (max_step x0 x1 26 (max_26 harg1 harg2 c x0 x1) (rot_read harg1 harg2 x0 x1 27 (by decide) _ _))

/-- The running largest magnitude after chunk 29. -/
theorem max_29 : kernelRun0_B.sl.r_62 c arg1 harg1 arg2 harg2 x0 x1 = maxAt x0 x1 29 := by
  unfold kernelRun0_B.sl.r_62 k0_pay147
  exact (max_step x0 x1 28 (max_step x0 x1 27 (max_27 harg1 harg2 c x0 x1) (rot_read harg1 harg2 x0 x1 28 (by decide) _ _)) (rot_read harg1 harg2 x0 x1 29 (by decide) _ _))

/-- The running largest magnitude after chunk 30. -/
theorem max_30 : kernelRun0_B.sl.r_64 c arg1 harg1 arg2 harg2 x0 x1 = maxAt x0 x1 30 := by
  unfold kernelRun0_B.sl.r_64 k0_pay151
  exact (max_step x0 x1 29 (max_29 harg1 harg2 c x0 x1) (rot_read harg1 harg2 x0 x1 30 (by decide) _ _))

/-- The last chunk, rotated. -/
theorem rot_31 : kernelRun0_B.sl.r_66 c arg1 harg1 arg2 harg2 x0 x1 = rotAt x0 x1 31 := (rot_read harg1 harg2 x0 x1 31 (by decide) _ _)

end Steps

end Cert.Chain

end
-- ==== Proof.Block.lean ====
/-
  What one grid point leaves: the carried buffers hold the block it rotated and that block's scales, and the outputs hold
  the codes, the scales and the products of the block left by the point before.
-/
module

public import proofs.«01_k».proof.Proof.Chain

@[expose] public section

set_option maxRecDepth 16384

noncomputable section

namespace Cert.Block

open Cert.KernelIdeal Cert.KernelIdeal.Gen Cert.Chain Idealize.ShloMosaic Idealize.ShloMosaic.TcCoe Idealize.SL.Sem

/-- A block whose chunk `k` of 256 columns is `f k`. -/
def ofChunks {e : EltTy} (f : ℕ → Vec Ideal S256x256 e) : Vec Ideal S256x8192 e :=
  fun y => f ((y 1 : ℕ) / 256) (ix2 (y 0) ⟨(y 1 : ℕ) % 256, Nat.mod_lt _ (by decide)⟩)

/-- At chunk `k`'s place, such a block holds `f k`. -/
theorem ofChunks_emb {e : EltTy} (f : ℕ → Vec Ideal S256x256 e) (k : ℕ) (inb) (x) :
    f k x = ofChunks f ((Rect.unit (s := S256x8192) ![0, 256 * k] S256x256.size inb).emb x) := by
  have h1 := (x 1).2
  change (x 1 : ℕ) < 256 at h1
  have e1 : (((Rect.unit (s := S256x8192) ![0, 256 * k] S256x256.size inb).emb x) 1 : ℕ) = 256 * k + (x 1 : ℕ) := by
    rw [Rect.emb_apply]; change 256 * k + 1 * (x 1 : ℕ) = _; omega
  have e0 : (((Rect.unit (s := S256x8192) ![0, 256 * k] S256x256.size inb).emb x) 0 : ℕ) = (x 0 : ℕ) := by
    rw [Rect.emb_apply]; change 0 + 1 * (x 0 : ℕ) = _; omega
  unfold ofChunks
  have ek : (((Rect.unit (s := S256x8192) ![0, 256 * k] S256x256.size inb).emb x) 1 : ℕ) / 256 = k := by
    rw [e1]; omega
  rw [ek]
  congr 1
  funext d
  refine Fin.ext ?_
  fin_cases d
  · exact e0.symm
  · change (x 1 : ℕ) = (((Rect.unit (s := S256x8192) ![0, 256 * k] S256x256.size inb).emb x) 1 : ℕ) % 256
    rw [e1]; omega

/-- Reshaping to the same shape changes nothing. -/
theorem shapeCast_self {s : Shape} {e : EltTy} (v : Vec Ideal s e) (h) : shapeCast s v h = v := by
  funext y
  simp [shapeCast]

/-- Reading a list of pieces whose first part covers the index and agrees with `G` gives `G`. -/
theorem canon_append {s : Shape} {e : EltTy} (G : s.Idx → Elt Ideal e) (M : List (View.Piece (Elt Ideal) s e)) :
    ∀ (L : List (View.Piece (Elt Ideal) s e)) (_ : ∀ p ∈ L, ∀ x : p.1.shape.Idx, p.2 x = G (p.1.emb x)) (y : s.Idx)
      (_ : ∃ p ∈ L, y ∈ p.1.set), View.canon (L ++ M) y = G y
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_append G M L (fun q hq => hL q (by simp [hq])) y ?_
      obtain ⟨q, hq, hyq⟩ := hy
      rcases List.mem_cons.mp hq with rfl | hq'
      · exact absurd hyq hm
      · exact ⟨q, hq', hyq⟩

/-- A rectangle at the origin with the whole extent places every index at itself. -/
theorem full_emb {s : Shape} {off : Fin s.rank → ℕ} (h0 : ∀ d, off d = 0) (inb) (x : s.Idx) :
    (Rect.unit (s := s) off s.size inb).emb x = x := by
  funext d
  refine Fin.ext ?_
  rw [Rect.emb_apply]
  change off d + 1 * (x d : ℕ) = _
  rw [h0]; omega

theorem zero2 : ∀ d : Fin 2, (![0, 0] : Fin 2 → ℕ) d = 0 := by decide

theorem out_congr {a a' : Vec Ideal S256x128 .f32} {b b' : FVec Ideal S256x1280 .f32} {d d' : Vec Ideal S1x1280 .f32}
    (ha : a = a') (hb : b = b') (hd : d = d') : k0_pay157 a b d = k0_pay157 a' b' d' := by
  subst ha hb hd; rfl

theorem scale_congr {a a' b b' : FVec Ideal S256x256 .f32} (ha : a = a') (hb : b = b') :
    k0_pay1 (k0_pay158 a b) = k0_pay1 (k0_pay158 a' b') := by
  subst ha hb; rfl

variable (c : Dev nD) (i : grid0.Coords)
  (arg1 : Memref sig .tc .vmem S256x8192 .bf16) (harg1 : arg1.IsWhole)
  (arg2 : Memref sig .tc .vmem S256x256 .bf16) (harg2 : arg2.IsWhole)
  (arg3 : Memref sig .tc .vmem S8192x1280 .i8) (harg3 : arg3.IsWhole)
  (arg4 : Memref sig .tc .vmem S1x1280 .f32) (harg4 : arg4.IsWhole)
  (arg5 : Memref sig .tc .vmem S256x1280 .bf16) (harg5 : arg5.IsWhole)
  (arg6 : Memref sig .tc .vmem S256x8192 .i8) (harg6 : arg6.IsWhole)
  (arg7 : Memref sig .tc .vmem S256x1 .f32) (harg7 : arg7.IsWhole)
  (arg8 : Memref sig .tc .vmem S256x8192 .f32) (harg8 : arg8.IsWhole)
  (arg9 : Memref sig .tc .vmem S256x128 .f32) (harg9 : arg9.IsWhole)
  (arg10 : Memref sig .tc .vmem S8192x1280 .bf16) (harg10 : arg10.IsWhole)
  (x0 : Vec Ideal S256x8192 .bf16) (x1 : Vec Ideal S256x256 .bf16) (x2 : Vec Ideal S8192x1280 .i8) (x3 : Vec Ideal S1x1280 .f32)
  (xs0 : Vec Ideal S256x8192 .f32) (xs1 : Vec Ideal S256x128 .f32) (xs2 : Vec Ideal S8192x1280 .bf16)

include harg1 harg2 in
/-- A stored chunk of rotated tokens, at its place. -/
theorem rot_piece (k : ℕ) (hk : k < 32) (inb inb' inb'' h) (x) :
    shapeCast S256x256 (k0_pay8 (View.readAt (Elt Ideal) arg2.view (Rect.unit (s := S256x256) ![0, 0] S256x256.size inb').toLoadRect (harg2.unread x1))
      (View.readAt (Elt Ideal) arg1.view (Rect.unit (s := S256x8192) ![0, 256 * k] S256x256.size inb).toLoadRect (harg1.unread x0))) h x
    = ofChunks (e := .f32) (rotAt x0 x1) ((Rect.unit (s := S256x8192) ![0, 256 * k] S256x256.size inb'').emb x) := by
  rw [rot_read harg1 harg2 x0 x1 k hk, shapeCast_self (e := .f32)]
  exact ofChunks_emb (e := .f32) _ k _ x

include harg8 harg9 in
/-- A stored chunk of codes, at its place. -/
theorem code_piece (k : ℕ) (hk : k < 32) (inb inb' inb'') (x) :
    k0_pay17 (k0_pay5 (View.readAt (Elt Ideal) arg9.view (Rect.unit (s := S256x128) ![0, 0] S256x128.size inb').toLoadRect (harg9.unread xs1)))
      (View.readAt (Elt Ideal) arg8.view (Rect.unit (s := S256x8192) ![0, 256 * k] S256x256.size inb).toLoadRect (harg8.unread xs0)) x
    = ofChunks (e := .i8) (codesAt xs0 xs1) ((Rect.unit (s := S256x8192) ![0, 256 * k] S256x256.size inb'').emb x) := by
  rw [codes_read harg8 harg9 xs0 xs1 k hk]
  exact ofChunks_emb (e := .i8) _ k _ x

/-- Every piece a later point stores into the rotated block is its chunk of the rotated tokens. -/
theorem rot_pieces (hc0 : ¬cond0_0 i) : ∀ p ∈ (kernelRun0_B (F := Ideal) c i arg1 harg1 arg2 harg2 arg3 harg3 arg4 harg4 arg5 harg5 arg6 harg6 arg7 harg7 arg8 harg8 arg9 harg9 arg10 harg10 hc0 x0 x1 x2 x3 xs0 xs1 xs2).2.2.2.1, ∀ x : p.1.shape.Idx,
    p.2 x = ofChunks (e := .f32) (rotAt x0 x1) (p.1.emb x) :=
  (List.forall_mem_cons.2 ⟨fun x => rot_piece arg1 harg1 arg2 harg2 x0 x1 31 (by decide) inb_S256x8192_S256x256_0_7936 inb_S256x256_S256x256_0_0 inb_S256x8192_S256x256_0_7936 shapeCasts_S256x256_S256x256 x,
    (List.forall_mem_cons.2 ⟨fun x => rot_piece arg1 harg1 arg2 harg2 x0 x1 30 (by decide) inb_S256x8192_S256x256_0_7680 inb_S256x256_S256x256_0_0 inb_S256x8192_S256x256_0_7680 shapeCasts_S256x256_S256x256 x,
    (List.forall_mem_cons.2 ⟨fun x => rot_piece arg1 harg1 arg2 harg2 x0 x1 29 (by decide) inb_S256x8192_S256x256_0_7424 inb_S256x256_S256x256_0_0 inb_S256x8192_S256x256_0_7424 shapeCasts_S256x256_S256x256 x,
    (List.forall_mem_cons.2 ⟨fun x => rot_piece arg1 harg1 arg2 harg2 x0 x1 28 (by decide) inb_S256x8192_S256x256_0_7168 inb_S256x256_S256x256_0_0 inb_S256x8192_S256x256_0_7168 shapeCasts_S256x256_S256x256 x,
    (List.forall_mem_cons.2 ⟨fun x => rot_piece arg1 harg1 arg2 harg2 x0 x1 27 (by decide) inb_S256x8192_S256x256_0_6912 inb_S256x256_S256x256_0_0 inb_S256x8192_S256x256_0_6912 shapeCasts_S256x256_S256x256 x,
    (List.forall_mem_cons.2 ⟨fun x => rot_piece arg1 harg1 arg2 harg2 x0 x1 26 (by decide) inb_S256x8192_S256x256_0_6656 inb_S256x256_S256x256_0_0 inb_S256x8192_S256x256_0_6656 shapeCasts_S256x256_S256x256 x,
    (List.forall_mem_cons.2 ⟨fun x => rot_piece arg1 harg1 arg2 harg2 x0 x1 25 (by decide) inb_S256x8192_S256x256_0_6400 inb_S256x256_S256x256_0_0 inb_S256x8192_S256x256_0_6400 shapeCasts_S256x256_S256x256 x,
    (List.forall_mem_cons.2 ⟨fun x => rot_piece arg1 harg1 arg2 harg2 x0 x1 24 (by decide) inb_S256x8192_S256x256_0_6144 inb_S256x256_S256x256_0_0 inb_S256x8192_S256x256_0_6144 shapeCasts_S256x256_S256x256 x,
    (List.forall_mem_cons.2 ⟨fun x => rot_piece arg1 harg1 arg2 harg2 x0 x1 23 (by decide) inb_S256x8192_S256x256_0_5888 inb_S256x256_S256x256_0_0 inb_S256x8192_S256x256_0_5888 shapeCasts_S256x256_S256x256 x,
    (List.forall_mem_cons.2 ⟨fun x => rot_piece arg1 harg1 arg2 harg2 x0 x1 22 (by decide) inb_S256x8192_S256x256_0_5632 inb_S256x256_S256x256_0_0 inb_S256x8192_S256x256_0_5632 shapeCasts_S256x256_S256x256 x,
    (List.forall_mem_cons.2 ⟨fun x => rot_piece arg1 harg1 arg2 harg2 x0 x1 21 (by decide) inb_S256x8192_S256x256_0_5376 inb_S256x256_S256x256_0_0 inb_S256x8192_S256x256_0_5376 shapeCasts_S256x256_S256x256 x,
    (List.forall_mem_cons.2 ⟨fun x => rot_piece arg1 harg1 arg2 harg2 x0 x1 20 (by decide) inb_S256x8192_S256x256_0_5120 inb_S256x256_S256x256_0_0 inb_S256x8192_S256x256_0_5120 shapeCasts_S256x256_S256x256 x,
    (List.forall_mem_cons.2 ⟨fun x => rot_piece arg1 harg1 arg2 harg2 x0 x1 19 (by decide) inb_S256x8192_S256x256_0_4864 inb_S256x256_S256x256_0_0 inb_S256x8192_S256x256_0_4864 shapeCasts_S256x256_S256x256 x,
    (List.forall_mem_cons.2 ⟨fun x => rot_piece arg1 harg1 arg2 harg2 x0 x1 18 (by decide) inb_S256x8192_S256x256_0_4608 inb_S256x256_S256x256_0_0 inb_S256x8192_S256x256_0_4608 shapeCasts_S256x256_S256x256 x,
    (List.forall_mem_cons.2 ⟨fun x => rot_piece arg1 harg1 arg2 harg2 x0 x1 17 (by decide) inb_S256x8192_S256x256_0_4352 inb_S256x256_S256x256_0_0 inb_S256x8192_S256x256_0_4352 shapeCasts_S256x256_S256x256 x,
    (List.forall_mem_cons.2 ⟨fun x => rot_piece arg1 harg1 arg2 harg2 x0 x1 16 (by decide) inb_S256x8192_S256x256_0_4096 inb_S256x256_S256x256_0_0 inb_S256x8192_S256x256_0_4096 shapeCasts_S256x256_S256x256 x,
    (List.forall_mem_cons.2 ⟨fun x => rot_piece arg1 harg1 arg2 harg2 x0 x1 15 (by decide) inb_S256x8192_S256x256_0_3840 inb_S256x256_S256x256_0_0 inb_S256x8192_S256x256_0_3840 shapeCasts_S256x256_S256x256 x,
    (List.forall_mem_cons.2 ⟨fun x => rot_piece arg1 harg1 arg2 harg2 x0 x1 14 (by decide) inb_S256x8192_S256x256_0_3584 inb_S256x256_S256x256_0_0 inb_S256x8192_S256x256_0_3584 shapeCasts_S256x256_S256x256 x,
    (List.forall_mem_cons.2 ⟨fun x => rot_piece arg1 harg1 arg2 harg2 x0 x1 13 (by decide) inb_S256x8192_S256x256_0_3328 inb_S256x256_S256x256_0_0 inb_S256x8192_S256x256_0_3328 shapeCasts_S256x256_S256x256 x,
    (List.forall_mem_cons.2 ⟨fun x => rot_piece arg1 harg1 arg2 harg2 x0 x1 12 (by decide) inb_S256x8192_S256x256_0_3072 inb_S256x256_S256x256_0_0 inb_S256x8192_S256x256_0_3072 shapeCasts_S256x256_S256x256 x,
    (List.forall_mem_cons.2 ⟨fun x => rot_piece arg1 harg1 arg2 harg2 x0 x1 11 (by decide) inb_S256x8192_S256x256_0_2816 inb_S256x256_S256x256_0_0 inb_S256x8192_S256x256_0_2816 shapeCasts_S256x256_S256x256 x,
    (List.forall_mem_cons.2 ⟨fun x => rot_piece arg1 harg1 arg2 harg2 x0 x1 10 (by decide) inb_S256x8192_S256x256_0_2560 inb_S256x256_S256x256_0_0 inb_S256x8192_S256x256_0_2560 shapeCasts_S256x256_S256x256 x,
    (List.forall_mem_cons.2 ⟨fun x => rot_piece arg1 harg1 arg2 harg2 x0 x1 9 (by decide) inb_S256x8192_S256x256_0_2304 inb_S256x256_S256x256_0_0 inb_S256x8192_S256x256_0_2304 shapeCasts_S256x256_S256x256 x,
    (List.forall_mem_cons.2 ⟨fun x => rot_piece arg1 harg1 arg2 harg2 x0 x1 8 (by decide) inb_S256x8192_S256x256_0_2048 inb_S256x256_S256x256_0_0 inb_S256x8192_S256x256_0_2048 shapeCasts_S256x256_S256x256 x,
    (List.forall_mem_cons.2 ⟨fun x => rot_piece arg1 harg1 arg2 harg2 x0 x1 7 (by decide) inb_S256x8192_S256x256_0_1792 inb_S256x256_S256x256_0_0 inb_S256x8192_S256x256_0_1792 shapeCasts_S256x256_S256x256 x,
    (List.forall_mem_cons.2 ⟨fun x => rot_piece arg1 harg1 arg2 harg2 x0 x1 6 (by decide) inb_S256x8192_S256x256_0_1536 inb_S256x256_S256x256_0_0 inb_S256x8192_S256x256_0_1536 shapeCasts_S256x256_S256x256 x,
    (List.forall_mem_cons.2 ⟨fun x => rot_piece arg1 harg1 arg2 harg2 x0 x1 5 (by decide) inb_S256x8192_S256x256_0_1280 inb_S256x256_S256x256_0_0 inb_S256x8192_S256x256_0_1280 shapeCasts_S256x256_S256x256 x,
    (List.forall_mem_cons.2 ⟨fun x => rot_piece arg1 harg1 arg2 harg2 x0 x1 4 (by decide) inb_S256x8192_S256x256_0_1024 inb_S256x256_S256x256_0_0 inb_S256x8192_S256x256_0_1024 shapeCasts_S256x256_S256x256 x,
    (List.forall_mem_cons.2 ⟨fun x => rot_piece arg1 harg1 arg2 harg2 x0 x1 3 (by decide) inb_S256x8192_S256x256_0_768 inb_S256x256_S256x256_0_0 inb_S256x8192_S256x256_0_768 shapeCasts_S256x256_S256x256 x,
    (List.forall_mem_cons.2 ⟨fun x => rot_piece arg1 harg1 arg2 harg2 x0 x1 2 (by decide) inb_S256x8192_S256x256_0_512 inb_S256x256_S256x256_0_0 inb_S256x8192_S256x256_0_512 shapeCasts_S256x256_S256x256 x,
    (List.forall_mem_cons.2 ⟨fun x => rot_piece arg1 harg1 arg2 harg2 x0 x1 1 (by decide) inb_S256x8192_S256x256_0_256 inb_S256x256_S256x256_0_0 inb_S256x8192_S256x256_0_256 shapeCasts_S256x256_S256x256 x,
    (List.forall_mem_cons.2 ⟨fun x => rot_piece arg1 harg1 arg2 harg2 x0 x1 0 (by decide) inb_S256x8192_S256x256_0_0 inb_S256x256_S256x256_0_0 inb_S256x8192_S256x256_0_0 shapeCasts_S256x256_S256x256 x,
    (by simp)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)

/-- Every piece a later point stores into the codes is its chunk of the codes. -/
theorem code_pieces (hc0 : ¬cond0_0 i) : ∀ p ∈ (kernelRun0_B (F := Ideal) c i arg1 harg1 arg2 harg2 arg3 harg3 arg4 harg4 arg5 harg5 arg6 harg6 arg7 harg7 arg8 harg8 arg9 harg9 arg10 harg10 hc0 x0 x1 x2 x3 xs0 xs1 xs2).2.1, ∀ x : p.1.shape.Idx,
    p.2 x = ofChunks (e := .i8) (codesAt xs0 xs1) (p.1.emb x) :=
  (List.forall_mem_cons.2 ⟨fun x => code_piece arg8 harg8 arg9 harg9 xs0 xs1 31 (by decide) inb_S256x8192_S256x256_0_7936 inb_S256x128_S256x128_0_0 inb_S256x8192_S256x256_0_7936 x,
    (List.forall_mem_cons.2 ⟨fun x => code_piece arg8 harg8 arg9 harg9 xs0 xs1 30 (by decide) inb_S256x8192_S256x256_0_7680 inb_S256x128_S256x128_0_0 inb_S256x8192_S256x256_0_7680 x,
    (List.forall_mem_cons.2 ⟨fun x => code_piece arg8 harg8 arg9 harg9 xs0 xs1 29 (by decide) inb_S256x8192_S256x256_0_7424 inb_S256x128_S256x128_0_0 inb_S256x8192_S256x256_0_7424 x,
    (List.forall_mem_cons.2 ⟨fun x => code_piece arg8 harg8 arg9 harg9 xs0 xs1 28 (by decide) inb_S256x8192_S256x256_0_7168 inb_S256x128_S256x128_0_0 inb_S256x8192_S256x256_0_7168 x,
    (List.forall_mem_cons.2 ⟨fun x => code_piece arg8 harg8 arg9 harg9 xs0 xs1 27 (by decide) inb_S256x8192_S256x256_0_6912 inb_S256x128_S256x128_0_0 inb_S256x8192_S256x256_0_6912 x,
    (List.forall_mem_cons.2 ⟨fun x => code_piece arg8 harg8 arg9 harg9 xs0 xs1 26 (by decide) inb_S256x8192_S256x256_0_6656 inb_S256x128_S256x128_0_0 inb_S256x8192_S256x256_0_6656 x,
    (List.forall_mem_cons.2 ⟨fun x => code_piece arg8 harg8 arg9 harg9 xs0 xs1 25 (by decide) inb_S256x8192_S256x256_0_6400 inb_S256x128_S256x128_0_0 inb_S256x8192_S256x256_0_6400 x,
    (List.forall_mem_cons.2 ⟨fun x => code_piece arg8 harg8 arg9 harg9 xs0 xs1 24 (by decide) inb_S256x8192_S256x256_0_6144 inb_S256x128_S256x128_0_0 inb_S256x8192_S256x256_0_6144 x,
    (List.forall_mem_cons.2 ⟨fun x => code_piece arg8 harg8 arg9 harg9 xs0 xs1 23 (by decide) inb_S256x8192_S256x256_0_5888 inb_S256x128_S256x128_0_0 inb_S256x8192_S256x256_0_5888 x,
    (List.forall_mem_cons.2 ⟨fun x => code_piece arg8 harg8 arg9 harg9 xs0 xs1 22 (by decide) inb_S256x8192_S256x256_0_5632 inb_S256x128_S256x128_0_0 inb_S256x8192_S256x256_0_5632 x,
    (List.forall_mem_cons.2 ⟨fun x => code_piece arg8 harg8 arg9 harg9 xs0 xs1 21 (by decide) inb_S256x8192_S256x256_0_5376 inb_S256x128_S256x128_0_0 inb_S256x8192_S256x256_0_5376 x,
    (List.forall_mem_cons.2 ⟨fun x => code_piece arg8 harg8 arg9 harg9 xs0 xs1 20 (by decide) inb_S256x8192_S256x256_0_5120 inb_S256x128_S256x128_0_0 inb_S256x8192_S256x256_0_5120 x,
    (List.forall_mem_cons.2 ⟨fun x => code_piece arg8 harg8 arg9 harg9 xs0 xs1 19 (by decide) inb_S256x8192_S256x256_0_4864 inb_S256x128_S256x128_0_0 inb_S256x8192_S256x256_0_4864 x,
    (List.forall_mem_cons.2 ⟨fun x => code_piece arg8 harg8 arg9 harg9 xs0 xs1 18 (by decide) inb_S256x8192_S256x256_0_4608 inb_S256x128_S256x128_0_0 inb_S256x8192_S256x256_0_4608 x,
    (List.forall_mem_cons.2 ⟨fun x => code_piece arg8 harg8 arg9 harg9 xs0 xs1 17 (by decide) inb_S256x8192_S256x256_0_4352 inb_S256x128_S256x128_0_0 inb_S256x8192_S256x256_0_4352 x,
    (List.forall_mem_cons.2 ⟨fun x => code_piece arg8 harg8 arg9 harg9 xs0 xs1 16 (by decide) inb_S256x8192_S256x256_0_4096 inb_S256x128_S256x128_0_0 inb_S256x8192_S256x256_0_4096 x,
    (List.forall_mem_cons.2 ⟨fun x => code_piece arg8 harg8 arg9 harg9 xs0 xs1 15 (by decide) inb_S256x8192_S256x256_0_3840 inb_S256x128_S256x128_0_0 inb_S256x8192_S256x256_0_3840 x,
    (List.forall_mem_cons.2 ⟨fun x => code_piece arg8 harg8 arg9 harg9 xs0 xs1 14 (by decide) inb_S256x8192_S256x256_0_3584 inb_S256x128_S256x128_0_0 inb_S256x8192_S256x256_0_3584 x,
    (List.forall_mem_cons.2 ⟨fun x => code_piece arg8 harg8 arg9 harg9 xs0 xs1 13 (by decide) inb_S256x8192_S256x256_0_3328 inb_S256x128_S256x128_0_0 inb_S256x8192_S256x256_0_3328 x,
    (List.forall_mem_cons.2 ⟨fun x => code_piece arg8 harg8 arg9 harg9 xs0 xs1 12 (by decide) inb_S256x8192_S256x256_0_3072 inb_S256x128_S256x128_0_0 inb_S256x8192_S256x256_0_3072 x,
    (List.forall_mem_cons.2 ⟨fun x => code_piece arg8 harg8 arg9 harg9 xs0 xs1 11 (by decide) inb_S256x8192_S256x256_0_2816 inb_S256x128_S256x128_0_0 inb_S256x8192_S256x256_0_2816 x,
    (List.forall_mem_cons.2 ⟨fun x => code_piece arg8 harg8 arg9 harg9 xs0 xs1 10 (by decide) inb_S256x8192_S256x256_0_2560 inb_S256x128_S256x128_0_0 inb_S256x8192_S256x256_0_2560 x,
    (List.forall_mem_cons.2 ⟨fun x => code_piece arg8 harg8 arg9 harg9 xs0 xs1 9 (by decide) inb_S256x8192_S256x256_0_2304 inb_S256x128_S256x128_0_0 inb_S256x8192_S256x256_0_2304 x,
    (List.forall_mem_cons.2 ⟨fun x => code_piece arg8 harg8 arg9 harg9 xs0 xs1 8 (by decide) inb_S256x8192_S256x256_0_2048 inb_S256x128_S256x128_0_0 inb_S256x8192_S256x256_0_2048 x,
    (List.forall_mem_cons.2 ⟨fun x => code_piece arg8 harg8 arg9 harg9 xs0 xs1 7 (by decide) inb_S256x8192_S256x256_0_1792 inb_S256x128_S256x128_0_0 inb_S256x8192_S256x256_0_1792 x,
    (List.forall_mem_cons.2 ⟨fun x => code_piece arg8 harg8 arg9 harg9 xs0 xs1 6 (by decide) inb_S256x8192_S256x256_0_1536 inb_S256x128_S256x128_0_0 inb_S256x8192_S256x256_0_1536 x,
    (List.forall_mem_cons.2 ⟨fun x => code_piece arg8 harg8 arg9 harg9 xs0 xs1 5 (by decide) inb_S256x8192_S256x256_0_1280 inb_S256x128_S256x128_0_0 inb_S256x8192_S256x256_0_1280 x,
    (List.forall_mem_cons.2 ⟨fun x => code_piece arg8 harg8 arg9 harg9 xs0 xs1 4 (by decide) inb_S256x8192_S256x256_0_1024 inb_S256x128_S256x128_0_0 inb_S256x8192_S256x256_0_1024 x,
    (List.forall_mem_cons.2 ⟨fun x => code_piece arg8 harg8 arg9 harg9 xs0 xs1 3 (by decide) inb_S256x8192_S256x256_0_768 inb_S256x128_S256x128_0_0 inb_S256x8192_S256x256_0_768 x,
    (List.forall_mem_cons.2 ⟨fun x => code_piece arg8 harg8 arg9 harg9 xs0 xs1 2 (by decide) inb_S256x8192_S256x256_0_512 inb_S256x128_S256x128_0_0 inb_S256x8192_S256x256_0_512 x,
    (List.forall_mem_cons.2 ⟨fun x => code_piece arg8 harg8 arg9 harg9 xs0 xs1 1 (by decide) inb_S256x8192_S256x256_0_256 inb_S256x128_S256x128_0_0 inb_S256x8192_S256x256_0_256 x,
    (List.forall_mem_cons.2 ⟨fun x => code_piece arg8 harg8 arg9 harg9 xs0 xs1 0 (by decide) inb_S256x8192_S256x256_0_0 inb_S256x128_S256x128_0_0 inb_S256x8192_S256x256_0_0 x,
    (by simp)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)

/-- A later point leaves its own block, rotated, -/
theorem sout_B_0 (hc0 : ¬cond0_0 i) : sout0_B_0 (F := Ideal) c i arg1 harg1 arg2 harg2 arg3 harg3 arg4 harg4 arg5 harg5 arg6 harg6 arg7 harg7 arg8 harg8 arg9 harg9 arg10 harg10 hc0 x0 x1 x2 x3 xs0 xs1 xs2 = ofChunks (e := .f32) (rotAt x0 x1) := by
  funext y
  have hcov := scover0_B_0 (F := Ideal) c i arg1 harg1 arg2 harg2 arg3 harg3 arg4 harg4 arg5 harg5 arg6 harg6 arg7 harg7 arg8 harg8 arg9 harg9 arg10 harg10 hc0 x0 x1 x2 x3 xs0 xs1 xs2 y
  unfold sout0_B_0
  rw [View.read_writes_apply_eq_canon _ _ _ _ hcov]
  exact View.canon_apply_of_pieces _ _ (rot_pieces c i arg1 harg1 arg2 harg2 arg3 harg3 arg4 harg4 arg5 harg5 arg6 harg6 arg7 harg7 arg8 harg8 arg9 harg9 arg10 harg10 x0 x1 x2 x3 xs0 xs1 xs2 hc0) y hcov

/-- and writes the codes of the block left to it. -/
theorem out_B_5 (hc0 : ¬cond0_0 i) : out0_B_5 (F := Ideal) c i arg1 harg1 arg2 harg2 arg3 harg3 arg4 harg4 arg5 harg5 arg6 harg6 arg7 harg7 arg8 harg8 arg9 harg9 arg10 harg10 hc0 x0 x1 x2 x3 xs0 xs1 xs2 = ofChunks (e := .i8) (codesAt xs0 xs1) := by
  funext y
  have hcov := cover0_B_5 (F := Ideal) c i arg1 harg1 arg2 harg2 arg3 harg3 arg4 harg4 arg5 harg5 arg6 harg6 arg7 harg7 arg8 harg8 arg9 harg9 arg10 harg10 hc0 x0 x1 x2 x3 xs0 xs1 xs2 y
  unfold out0_B_5
  rw [View.read_writes_apply_eq_canon _ _ _ _ hcov]
  exact View.canon_apply_of_pieces _ _ (code_pieces c i arg1 harg1 arg2 harg2 arg3 harg3 arg4 harg4 arg5 harg5 arg6 harg6 arg7 harg7 arg8 harg8 arg9 harg9 arg10 harg10 x0 x1 x2 x3 xs0 xs1 xs2 hc0) y hcov

/-- It writes the products of the block left to it, -/
theorem out_B_4 (hc0 : ¬cond0_0 i) : out0_B_4 (F := Ideal) c i arg1 harg1 arg2 harg2 arg3 harg3 arg4 harg4 arg5 harg5 arg6 harg6 arg7 harg7 arg8 harg8 arg9 harg9 arg10 harg10 hc0 x0 x1 x2 x3 xs0 xs1 xs2 = k0_pay157 xs1 (accAt xs0 xs1 xs2 31) x3 := by
  funext y
  have hcov := cover0_B_4 (F := Ideal) c i arg1 harg1 arg2 harg2 arg3 harg3 arg4 harg4 arg5 harg5 arg6 harg6 arg7 harg7 arg8 harg8 arg9 harg9 arg10 harg10 hc0 x0 x1 x2 x3 xs0 xs1 xs2 y
  unfold out0_B_4
  rw [View.read_writes_apply_eq_canon _ _ _ _ hcov]
  refine View.canon_apply_of_pieces _ _ ?_ y hcov
  refine List.forall_mem_cons.2 ⟨fun x => ?_, by simp⟩
  refine Eq.trans (congrFun (out_congr (read_full harg9 xs1 (off := ![0, 0]) zero2 inb_S256x128_S256x128_0_0)
    (sum_31 harg8 harg9 harg10 c xs0 xs1 xs2) (read_full harg4 x3 (off := ![0, 0]) zero2 inb_S1x1280_S1x1280_0_0)) x) ?_
  exact congrArg _ (full_emb (s := S256x1280) (off := ![0, 0]) zero2 inb_S256x1280_S256x1280_0_0 x).symm

/-- and the scales left to it, -/
theorem out_B_6 (hc0 : ¬cond0_0 i) : out0_B_6 (F := Ideal) c i arg1 harg1 arg2 harg2 arg3 harg3 arg4 harg4 arg5 harg5 arg6 harg6 arg7 harg7 arg8 harg8 arg9 harg9 arg10 harg10 hc0 x0 x1 x2 x3 xs0 xs1 xs2 = k0_pay156 xs1 := by
  funext y
  have hcov := cover0_B_6 (F := Ideal) c i arg1 harg1 arg2 harg2 arg3 harg3 arg4 harg4 arg5 harg5 arg6 harg6 arg7 harg7 arg8 harg8 arg9 harg9 arg10 harg10 hc0 x0 x1 x2 x3 xs0 xs1 xs2 y
  unfold out0_B_6
  rw [View.read_writes_apply_eq_canon _ _ _ _ hcov]
  refine View.canon_apply_of_pieces _ _ ?_ y hcov
  refine List.forall_mem_cons.2 ⟨fun x => ?_, by simp⟩
  refine Eq.trans (congrFun (congrArg k0_pay156 (read_full harg9 xs1 (off := ![0, 0]) zero2 inb_S256x128_S256x128_0_0)) x) ?_
  exact congrArg _ (full_emb (s := S256x1) (off := ![0, 0]) zero2 inb_S256x1_S256x1_0_0 x).symm

/-- and leaves its own block's scales. -/
theorem sout_B_1 (hc0 : ¬cond0_0 i) : sout0_B_1 (F := Ideal) c i arg1 harg1 arg2 harg2 arg3 harg3 arg4 harg4 arg5 harg5 arg6 harg6 arg7 harg7 arg8 harg8 arg9 harg9 arg10 harg10 hc0 x0 x1 x2 x3 xs0 xs1 xs2 = k0_pay1 (k0_pay158 (maxAt x0 x1 30) (rotAt x0 x1 31)) := by
  funext y
  have hcov := scover0_B_1 (F := Ideal) c i arg1 harg1 arg2 harg2 arg3 harg3 arg4 harg4 arg5 harg5 arg6 harg6 arg7 harg7 arg8 harg8 arg9 harg9 arg10 harg10 hc0 x0 x1 x2 x3 xs0 xs1 xs2 y
  unfold sout0_B_1
  rw [View.read_writes_apply_eq_canon _ _ _ _ hcov]
  have hy := full_emb (s := S256x128) (off := ![0, 0]) zero2 inb_S256x128_S256x128_0_0 y
  refine Eq.trans (congrArg _ hy.symm) ?_
  refine Eq.trans (View.canon_cons_emb (Rect.unit (s := S256x128) ![0, 0] S256x128.size inb_S256x128_S256x128_0_0) _ _ y) ?_
  exact congrFun (scale_congr (max_30 harg1 harg2 c x0 x1) (rot_31 harg1 harg2 c x0 x1)) y

/-- The first point leaves its own block, rotated, -/
theorem sout_A_0 (hc0 : cond0_0 i) : sout0_A_0 (F := Ideal) c i arg1 harg1 arg2 harg2 arg3 harg3 arg4 harg4 arg5 harg5 arg6 harg6 arg7 harg7 arg8 harg8 arg9 harg9 arg10 harg10 hc0 x0 x1 x2 x3 = ofChunks (e := .f32) (rotAt x0 x1) := by
  funext y
  have hn : ¬cond0_0 (grid0.coords ⟨1, lt_of_lt_of_eq (by decide : 1 < 97) N_0.symm⟩) := fun h => absurd ((hcond0_0 _).mp h) (by decide)
  have hcov := scover0_A_0 (F := Ideal) c i arg1 harg1 arg2 harg2 arg3 harg3 arg4 harg4 arg5 harg5 arg6 harg6 arg7 harg7 arg8 harg8 arg9 harg9 arg10 harg10 hc0 x0 x1 x2 x3 y
  have hcov' := scover0_B_0 (F := Ideal) c (grid0.coords ⟨1, lt_of_lt_of_eq (by decide : 1 < 97) N_0.symm⟩) arg1 harg1 arg2 harg2 arg3 harg3 arg4 harg4 arg5 harg5 arg6 harg6 arg7 harg7 arg8 harg8 arg9 harg9 arg10 harg10 hn x0 x1 x2 x3 (ofChunks (e := .f32) (rotAt x0 x1)) (k0_pay4 (F := Ideal)) (k0_pay2 x2) y
  unfold sout0_A_0
  rw [View.read_writes_apply_eq_canon _ _ _ _ hcov]
  exact canon_append _ kernelRun0_A.sl.HS0_1 _ (rot_pieces c (grid0.coords ⟨1, lt_of_lt_of_eq (by decide : 1 < 97) N_0.symm⟩) arg1 harg1 arg2 harg2 arg3 harg3 arg4 harg4 arg5 harg5 arg6 harg6 arg7 harg7 arg8 harg8 arg9 harg9 arg10 harg10 x0 x1 x2 x3 (ofChunks (e := .f32) (rotAt x0 x1)) (k0_pay4 (F := Ideal)) (k0_pay2 x2) hn) y hcov'

/-- its scales, -/
theorem sout_A_1 (hc0 : cond0_0 i) : sout0_A_1 (F := Ideal) c i arg1 harg1 arg2 harg2 arg3 harg3 arg4 harg4 arg5 harg5 arg6 harg6 arg7 harg7 arg8 harg8 arg9 harg9 arg10 harg10 hc0 x0 x1 x2 x3 = k0_pay1 (k0_pay158 (maxAt x0 x1 30) (rotAt x0 x1 31)) := by
  funext y
  have hcov := scover0_A_1 (F := Ideal) c i arg1 harg1 arg2 harg2 arg3 harg3 arg4 harg4 arg5 harg5 arg6 harg6 arg7 harg7 arg8 harg8 arg9 harg9 arg10 harg10 hc0 x0 x1 x2 x3 y
  unfold sout0_A_1
  rw [View.read_writes_apply_eq_canon _ _ _ _ hcov]
  have e : kernelRun0_A.sl.r_62 c arg1 harg1 arg2 harg2 x0 x1 = maxAt x0 x1 30 :=
    (rfl : _ = kernelRun0_B.sl.r_64 c arg1 harg1 arg2 harg2 x0 x1).trans (max_30 harg1 harg2 c x0 x1)
  have hy := full_emb (s := S256x128) (off := ![0, 0]) zero2 inb_S256x128_S256x128_0_0 y
  refine Eq.trans (congrArg _ hy.symm) ?_
  refine Eq.trans (View.canon_cons_emb (Rect.unit (s := S256x128) ![0, 0] S256x128.size inb_S256x128_S256x128_0_0) _ _ y) ?_
  exact congrFun (scale_congr e (rot_31 harg1 harg2 c x0 x1)) y

/-- and the weights. -/
theorem sout_A_2 (hc0 : cond0_0 i) : sout0_A_2 (F := Ideal) c i arg1 harg1 arg2 harg2 arg3 harg3 arg4 harg4 arg5 harg5 arg6 harg6 arg7 harg7 arg8 harg8 arg9 harg9 arg10 harg10 hc0 x0 x1 x2 x3 = k0_pay2 x2 := by
  funext y
  have hcov := scover0_A_2 (F := Ideal) c i arg1 harg1 arg2 harg2 arg3 harg3 arg4 harg4 arg5 harg5 arg6 harg6 arg7 harg7 arg8 harg8 arg9 harg9 arg10 harg10 hc0 x0 x1 x2 x3 y
  unfold sout0_A_2
  rw [View.read_writes_apply_eq_canon _ _ _ _ hcov]
  refine View.canon_apply_of_pieces _ _ ?_ y hcov
  refine List.forall_mem_cons.2 ⟨fun x => ?_, by simp⟩
  refine Eq.trans (congrFun (congrArg k0_pay2 (read_full harg3 x2 (off := ![0, 0]) zero2 inb_S8192x1280_S8192x1280_0_0)) x) ?_
  exact congrArg _ (full_emb (s := S8192x1280) (off := ![0, 0]) zero2 inb_S8192x1280_S8192x1280_0_0 x).symm

end Cert.Block

end
-- ==== Proof.Spec.lean ====
/-
  What the layer computes, row by row and over the extended reals: the rotated token, its largest magnitude, its
  scale, its int8 codes and one output. Both programs' results are shown equal to these.
-/
module

public import proofs.«01_k».proof.ReferenceIdeal
public import Idealize.ShloMosaic.PureOps.Ideal

@[expose] public section

noncomputable section

namespace Cert.Spec

open Idealize.ShloMosaic

/-- Entry `(j, i)` of the normalised Hadamard matrix, as the reference's constant states it. -/
def hadamard (j i : Fin 128) : EReal :=
  Ideal.ofBits .f32 (Cert.ReferenceIdeal.lit0 ⟨128 * (j : ℕ) + i, by have := j.2; have := i.2; omega⟩)

/-- Column `c` of the rotated token: the token's group of 128 columns that holds `c`, times the Hadamard matrix. -/
def rot (x : Fin 8192 → EReal) (c : Fin 8192) : EReal :=
  ∑ j : Fin 128, x ⟨128 * ((c : ℕ) / 128) + j, by have := j.2; have := c.2; omega⟩
    * hadamard j ⟨(c : ℕ) % 128, Nat.mod_lt _ (by decide)⟩

/-- The largest magnitude in a row. -/
def amax (v : Fin 8192 → EReal) : EReal := Finset.univ.sup fun c => max (v c) (-v c)

/-- A row's scale from its largest magnitude. -/
def scaleOf (a : EReal) : EReal := if 0 < a then Ideal.div a ((127 : ℝ) : EReal) else 1

/-- A token's scale. -/
def scale (x : Fin 8192 → EReal) : EReal := scaleOf (amax (rot x))

/-- The int8 code of the number `r` at scale `s`. -/
def codeOf (r s : EReal) : BitVec 8 :=
  (Ideal.fptosi 32 (min ((127 : ℝ) : EReal) (max ((-127 : ℝ) : EReal)
    (Ideal.liftRound Ideal.roundHalfEven (Ideal.div r s))))).setWidth 8

/-- A token's codes. -/
def code (x : Fin 8192 → EReal) (c : Fin 8192) : BitVec 8 := codeOf (rot x c) (scale x)

/-- One output from a token's codes and scale and a weight column: the integer product, rescaled. -/
def outOf (q : Fin 8192 → BitVec 8) (s : EReal) (w : Fin 8192 → BitVec 8) (ws : EReal) : EReal :=
  ((((∑ c, (q c).toInt * (w c).toInt : ℤ) : ℝ)) : EReal) * s * ws

end Cert.Spec

end
-- ==== Proof.Arith.lean ====
/-
  Facts about extended reals and words alone, which the value proof uses: a finite scale factor pulled through a sum, a
  block-diagonal product cut down to its block, rounding and clamping exchanged, dividing against multiplying by the
  reciprocal, and a sum of signed byte products read back from its 32-bit word.
-/
module

public import Idealize.ShloMosaic.PureOps
public import Idealize.ShloMosaic.PureOps.Ideal
public import Idealize.ShloMosaic.Lib.IntMxu
public import Mathlib.Data.BitVec

@[expose] public section

namespace Cert.Arith

open Idealize.ShloMosaic

/-- A factor that is nonnegative and not infinite may be multiplied into a sum term by term. -/
theorem sum_mul {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A sum over `a * b` positions is the sum over `a` groups of `b`. -/
theorem sum_groups (a b : ℕ) (f : ℕ → EReal) :
    ∑ i : Fin (a * b), f i = ∑ g : Fin a, ∑ j : Fin b, f (b * g + j) := by
  rw [← Fintype.sum_prod_type' (f := fun (g : Fin a) (j : Fin b) => f (b * g + j)),
    ← finProdFinEquiv.sum_comp]
  refine Finset.sum_congr rfl fun x _ => congrArg f ?_
  show (x.2 : ℕ) + b * x.1 = b * x.1 + x.2
  omega

/-- One column of the product with a two-block diagonal table, scaled: only the column's own block of 128 rows counts, and
    there the table's entry times the scale is `H`. -/
theorem block_sum (X T : ℕ → EReal) (H : ℕ → EReal) (c : EReal) (b : ℕ) (hb : b < 2) (h0 : 0 ≤ c) (ht : c ≠ ⊤)
    (hon : ∀ j < 128, T (128 * b + j) * c = H j)
    (hoff : ∀ i < 256, i / 128 ≠ b → T i = 0) :
    (∑ i : Fin 256, X i * T i) * c = ∑ j : Fin 128, X (128 * b + j) * H j := by
  rw [sum_mul _ _ _ h0 ht]
  have e : ∑ i : Fin 256, X i * T i * c
      = ∑ g : Fin 2, ∑ j : Fin 128, X (128 * g + j) * T (128 * g + j) * c := sum_groups 2 128 (fun i => X i * T i * c)
  rw [e, Finset.sum_eq_single (⟨b, hb⟩ : Fin 2)]
  · refine Finset.sum_congr rfl fun j _ => ?_
    rw [mul_assoc, hon j j.isLt]
  · intro g _ hg
    refine Finset.sum_eq_zero fun j _ => ?_
    have hj := j.isLt
    have hgl := g.isLt
    rw [hoff (128 * g + j) (by omega) (fun h => hg (Fin.ext (by show (g : ℕ) = b; omega)))]
    simp
  · simp

/-- Rounding to the nearest integer keeps the order of an integer bound below. -/
theorem le_roundHalfEven (n : ℤ) (r : ℝ) (h : (n : ℝ) ≤ r) : n ≤ Ideal.roundHalfEven r := by
  have hf : n ≤ ⌊r⌋ := Int.le_floor.mpr h
  unfold Ideal.roundHalfEven
  dsimp only
  split_ifs <;> omega

/-- Rounding to the nearest integer keeps the order of an integer bound above. -/
theorem roundHalfEven_le (n : ℤ) (r : ℝ) (h : r ≤ n) : Ideal.roundHalfEven r ≤ n := by
  have hf : ⌊r⌋ ≤ n := by exact_mod_cast (Int.floor_le r).trans h
  unfold Ideal.roundHalfEven
  dsimp only
  by_cases e : ⌊r⌋ = n
  · have : r - (⌊r⌋ : ℝ) = 0 := by
      have := Int.floor_le r
      rw [e] at this ⊢
      linarith
    rw [if_pos (by rw [this]; norm_num)]
    exact hf
  · split_ifs <;> omega

/-- An integer rounds to itself. -/
theorem roundHalfEven_int (n : ℤ) : Ideal.roundHalfEven (n : ℝ) = n :=
  le_antisymm (roundHalfEven_le n _ le_rfl) (le_roundHalfEven n _ le_rfl)

/-- Clamping to integers `lo ≤ hi` and rounding to the nearest integer may be exchanged. -/
theorem round_clamp (lo hi : ℤ) (hle : lo ≤ hi) (x : EReal) :
    Ideal.liftRound Ideal.roundHalfEven (min ((hi : ℝ) : EReal) (max ((lo : ℝ) : EReal) x))
      = min ((hi : ℝ) : EReal) (max ((lo : ℝ) : EReal) (Ideal.liftRound Ideal.roundHalfEven x)) := by
  have hle' : ((lo : ℝ) : EReal) ≤ ((hi : ℝ) : EReal) := by exact_mod_cast hle
  have onInt : ∀ n : ℤ, Ideal.liftRound Ideal.roundHalfEven ((n : ℝ) : EReal) = ((n : ℝ) : EReal) := fun n => by
    show (((Ideal.roundHalfEven (n : ℝ) : ℤ) : ℝ) : EReal) = _
    rw [roundHalfEven_int]
  induction x using EReal.rec with
  | bot =>
    show Ideal.liftRound _ (min _ (max _ ⊥)) = min _ (max _ ⊥)
    rw [max_bot_right, min_eq_right hle', onInt]
  | top =>
    show Ideal.liftRound _ (min _ (max _ ⊤)) = min _ (max _ ⊤)
    rw [max_top_right, min_top_right, onInt]
  | coe r =>
    show _ = min _ (max _ (((Ideal.roundHalfEven r : ℤ) : ℝ) : EReal))
    rcases le_total r lo with h | h
    · have h1 := roundHalfEven_le lo r h
      have a : (r : EReal) ≤ ((lo : ℝ) : EReal) := by exact_mod_cast h
      have b : (((Ideal.roundHalfEven r : ℤ) : ℝ) : EReal) ≤ ((lo : ℝ) : EReal) := by exact_mod_cast h1
      rw [max_eq_left a, max_eq_left b, min_eq_right hle', onInt]
    · have h1 := le_roundHalfEven lo r h
      have a : ((lo : ℝ) : EReal) ≤ (r : EReal) := by exact_mod_cast h
      have b : ((lo : ℝ) : EReal) ≤ (((Ideal.roundHalfEven r : ℤ) : ℝ) : EReal) := by exact_mod_cast h1
      rw [max_eq_right a, max_eq_right b]
      rcases le_total r hi with h' | h'
      · have h2 := roundHalfEven_le hi r h'
        have a : (r : EReal) ≤ ((hi : ℝ) : EReal) := by exact_mod_cast h'
        have b : (((Ideal.roundHalfEven r : ℤ) : ℝ) : EReal) ≤ ((hi : ℝ) : EReal) := by exact_mod_cast h2
        rw [min_eq_right a, min_eq_right b]
        rfl
      · have h2 := le_roundHalfEven hi r h'
        have a : ((hi : ℝ) : EReal) ≤ (r : EReal) := by exact_mod_cast h'
        have b : ((hi : ℝ) : EReal) ≤ (((Ideal.roundHalfEven r : ℤ) : ℝ) : EReal) := by exact_mod_cast h2
        rw [min_eq_left a, min_eq_left b, onInt]

/-- Multiplying by the reciprocal of a nonzero divisor is dividing by it. -/
theorem mul_recip (x s : EReal) (hs : s ≠ 0) : x * Ideal.div 1 s = Ideal.div x s := by
  unfold Ideal.div
  rw [if_neg hs, if_neg hs, one_mul]

/-- A token's scale, `a / d` where `a` is positive and one elsewhere, is never zero. -/
theorem scale_ne_zero (a d : EReal) (hd : 0 < d) (hdt : d ≠ ⊤) : (if 0 < a then Ideal.div a d else 1) ≠ 0 := by
  split_ifs with h
  · unfold Ideal.div
    rw [if_neg hd.ne']
    intro e
    rcases mul_eq_zero.mp e with e | e
    · exact h.ne' e
    · induction d using EReal.rec with
      | bot => exact absurd hd (by simp)
      | top => exact hdt rfl
      | coe r =>
        have hr : 0 < r := by exact_mod_cast hd
        rw [← EReal.coe_inv] at e
        have : r⁻¹ = 0 := by exact_mod_cast e
        exact (inv_pos.mpr hr).ne' this
  · exact one_ne_zero

/-- The sum of at most 2¹⁶ products of signed bytes, formed in 32-bit words, read back signed, is the sum of the products:
    nothing wraps. -/
theorem toInt_sum_bytes {ι : Type*} [Fintype ι] (a b : ι → BitVec 8) (hn : Fintype.card ι ≤ 2 ^ 16) :
    (∑ i, (a i).signExtend 32 * (b i).signExtend 32).toInt = ∑ i, (a i).toInt * (b i).toInt := by
  have h1 : ∀ i, (a i).signExtend 32 * (b i).signExtend 32 = BitVec.ofInt 32 ((a i).toInt * (b i).toInt) := by
    intro i
    rw [BitVec.ofInt_mul]
    rfl
  have h2 : ∀ s : Finset ι, ∑ i ∈ s, BitVec.ofInt 32 ((a i).toInt * (b i).toInt)
      = BitVec.ofInt 32 (∑ i ∈ s, (a i).toInt * (b i).toInt) := by
    classical
    intro s
    induction s using Finset.induction_on with
    | empty => rfl
    | insert x s hx ih => rw [Finset.sum_insert hx, Finset.sum_insert hx, ih, BitVec.ofInt_add]
  simp only [h1, h2]
  have hb : |∑ i, (a i).toInt * (b i).toInt| ≤ 2 ^ 30 := by
    calc |∑ i, (a i).toInt * (b i).toInt| ≤ ∑ i, |(a i).toInt * (b i).toInt| := Finset.abs_sum_le_sum_abs _ _
      _ ≤ ∑ _i : ι, (2 ^ 14 : ℤ) := by
        refine Finset.sum_le_sum fun i _ => ?_
        have ha := natAbs_toInt_i8_le (a i)
        have hb := natAbs_toInt_i8_le (b i)
        rw [abs_mul]
        calc |(a i).toInt| * |(b i).toInt| ≤ 128 * 128 :=
              mul_le_mul (by rw [Int.abs_eq_natAbs]; omega) (by rw [Int.abs_eq_natAbs]; omega) (abs_nonneg _) (by norm_num)
          _ = 2 ^ 14 := by norm_num
      _ = Fintype.card ι * 2 ^ 14 := by rw [Finset.sum_const, nsmul_eq_mul]; rfl
      _ ≤ 2 ^ 16 * 2 ^ 14 := by
        refine mul_le_mul_of_nonneg_right ?_ (by norm_num)
        exact_mod_cast hn
      _ = 2 ^ 30 := by norm_num
  rw [abs_le] at hb
  rw [BitVec.toInt_ofInt]
  rw [Int.bmod_eq_of_le] <;> norm_num <;> omega

/-- A sum of integers, taken as extended reals, is the sum of the integers taken as extended reals. -/
theorem coe_sum {ι : Type*} (s : Finset ι) (f : ι → ℤ) :
    (((∑ i ∈ s, f i : ℤ) : ℝ) : EReal) = ∑ i ∈ s, (((f i : ℤ) : ℝ) : EReal) := by
  classical
  induction s using Finset.induction_on with
  | empty => simp
  | insert x s hx ih => rw [Finset.sum_insert hx, Finset.sum_insert hx, ← ih]; push_cast; rfl

end Cert.Arith

end
-- ==== Proof.Ref.lean ====
/-
  What the reference's three results hold at an index: the layer's definitions (Spec.lean) at that row and column.
-/
module

public import proofs.«01_k».proof.Proof.Gen.ReferenceIdeal
public import proofs.«01_k».proof.Proof.Spec
public import proofs.«01_k».proof.Proof.Arith
public import Idealize.ShloMosaic.Lib.Pointwise

@[expose] public section

set_option maxRecDepth 16384

noncomputable section

namespace Cert.Ref

open Cert.ReferenceIdeal Cert.ReferenceIdeal.Gen Idealize.ShloMosaic

/-- The tokens, one row each. -/
def rows (x : FVec Ideal S8x3072x8192 .bf16) (t : Fin 24576) (c : Fin 8192) : EReal :=
  x (ix3 ⟨(t : ℕ) / 3072, by have := t.2; omega⟩ ⟨(t : ℕ) % 3072, Nat.mod_lt _ (by decide)⟩ c)

/-- The reference's rotated tokens, -/
def rotV (x : FVec Ideal S8x3072x8192 .bf16) : FVec Ideal S24576x8192 .f32 :=
  shapeCast _ (Host.dotGeneral dot_S24576x64x128_S128x128_S24576x64x128_2_0_01_1_n_n (some .fp32) (shapeCast _ (extf .f32 x bitsLt_bf16_f32) shapeCasts_S8x3072x8192_S24576x64x128) ((fun i => FloatOps.ofBits .f32 (lit0 (S128x128.rowMajor i))))) shapeCasts_S24576x64x128_S24576x8192

/-- their largest magnitudes, -/
def amaxV (v : FVec Ideal S24576x8192 .f32) : FVec Ideal S24576 .f32 :=
  Host.reduce FloatOps.maximumf (Host.absf v) (constant S_ .f32 0xFF800000#32) reducesTo_S24576x8192_S24576_d1 h_S_

/-- the scales from those, -/
def scaleV (a : FVec Ideal S24576 .f32) : FVec Ideal S24576x1 .f32 :=
  select (cmpf .ogt (broadcastInDim S24576x1 ![0] bcast_S24576_S24576x1_0 a) (broadcastInDim S24576x1 ![] bcast_S_S24576x1 (constant S_ .f32 0x00000000#32))) (Host.divf (broadcastInDim S24576x1 ![0] bcast_S24576_S24576x1_0 a) (broadcastInDim S24576x1 ![] bcast_S_S24576x1 (constant S_ .f32 0x42FE0000#32))) (broadcastInDim S24576x1 ![] bcast_S_S24576x1 (id (constant S_ .f32 0x3F800000#32)))

/-- the codes from the rotated tokens and the scales, -/
def codeV (v : FVec Ideal S24576x8192 .f32) (s : FVec Ideal S24576x1 .f32) : IVec S24576x8192 8 :=
  trunci 8 (fptosi 32 (minimumf (broadcastInDim S24576x8192 ![] bcast_S_S24576x8192 (id (constant S_ .f32 0x42FE0000#32))) (maximumf (broadcastInDim S24576x8192 ![] bcast_S_S24576x8192 (id (constant S_ .f32 0xC2FE0000#32))) (Host.roundeven (Host.divf v (broadcastInDim S24576x8192 ![0, 1] bcast_S24576x1_S24576x8192_0_1 s)))))) natLt_8_32

/-- the integer products, -/
def prodV (q : IVec S24576x8192 8) (w : IVec S8192x1280 8) : IVec S24576x8192x1280 32 :=
  muli (broadcastInDim S24576x8192x1280 ![0, 1, 2] bcast_S24576x8192x1_S24576x8192x1280_0_1_2 (broadcastInDim S24576x8192x1 ![0, 1] bcast_S24576x8192_S24576x8192x1_0_1 (extsi 32 q natLt_8_32))) (broadcastInDim S24576x8192x1280 ![0, 1, 2] bcast_S1x8192x1280_S24576x8192x1280_0_1_2 (broadcastInDim S1x8192x1280 ![1, 2] bcast_S8192x1280_S1x8192x1280_1_2 (extsi 32 w natLt_8_32)))

/-- their sums, -/
def accV (u : IVec S24576x8192x1280 32) : IVec S24576x1280 32 :=
  Host.reduce IntOp.addi u (constantI S_ 32 0#32) reducesTo_S24576x8192x1280_S24576x1280_d1 h_S_

/-- and the outputs from those, the scales and the weights' scales, as the program's operations. -/
def outV (r : IVec S24576x1280 32) (s : FVec Ideal S24576x1 .f32) (ws : FVec Ideal S1280 .f32) :
    FVec Ideal S24576x1280 .bf16 :=
  truncf .bf16 (mulf (mulf (sitofp .f32 r) (broadcastInDim S24576x1280 ![0, 1] bcast_S24576x1_S24576x1280_0_1 s)) (broadcastInDim S24576x1280 ![0, 1] bcast_S1x1280_S24576x1280_0_1 (broadcastInDim S1x1280 ![1] bcast_S1280_S1x1280_1 ws))) bitsLt_bf16_f32

/-- The printed bounds, as numbers. -/
theorem lit_127 : Ideal.ofBits .f32 0x42FE0000#32 = ((127 : ℝ) : EReal) := by
  simp [Ideal.ofBits, Ideal.ieee, -EReal.coe_mul]; norm_num

theorem lit_m127 : Ideal.ofBits .f32 0xC2FE0000#32 = ((-127 : ℝ) : EReal) := by
  simp [Ideal.ofBits, Ideal.ieee, -EReal.coe_mul, -EReal.coe_neg]; norm_num

/-- The printed Hadamard constant at an index. -/
theorem lit_apply (j i : Fin 128) :
    ((fun i => FloatOps.ofBits .f32 (lit0 (S128x128.rowMajor i))) : FVec Ideal S128x128 .f32) (ix2 j i) = Spec.hadamard j i := by
  have e : S128x128.rowMajor (ix2 j i) = (⟨128 * (j : ℕ) + i, by have := j.2; have := i.2; omega⟩ : Fin 16384) := by
    apply Fin.ext
    refine (Shape.rowMajor_val_two (d := ![128, 128]) (ix2 j i)).trans ?_
    show (j : ℕ) * 128 + i = 128 * (j : ℕ) + i
    omega
  exact congrArg (fun k => Ideal.ofBits .f32 (lit0 k)) e

/-- The reference's rotated tokens are the layer's. -/
theorem rotV_apply (x : FVec Ideal S8x3072x8192 .bf16) (t : Fin 24576) (c : Fin 8192) :
    rotV x (ix2 t c) = Spec.rot (rows x t) c := by
  have hH' := lit_apply
  unfold rotV Spec.rot
  generalize ((fun i => FloatOps.ofBits .f32 (lit0 (S128x128.rowMajor i))) : FVec Ideal S128x128 .f32) = H at hH' ⊢
  pointwise
  refine Finset.sum_congr rfl fun j _ => ?_
  rw [hH']
  unfold rows
  refine congrArg (· * _) (congrArg (fun k => x (ix3 _ _ k)) (Fin.ext ?_))
  show (c : ℕ) / 128 * 128 + j = 128 * ((c : ℕ) / 128) + j
  omega

/-- The maximum's start is the bottom. -/
theorem lit_ninf : Ideal.ofBits .f32 0xFF800000#32 = (⊥ : EReal) := by
  simp [Ideal.ofBits, Ideal.ieee]

/-- A fold by `max` from the bottom is the supremum. -/
theorem fold_max_eq_sup {ι : Type*} [Fintype ι] (f : ι → EReal) :
    Finset.fold (FloatOps.maximumf (F := Ideal) (φ := .f32)) (⊥ : EReal) f Finset.univ = Finset.univ.sup f := rfl

/-- A fold by wrapping addition from zero is the sum. -/
theorem fold_add_eq_sum {ι : Type*} [Fintype ι] (f : ι → BitVec 32) :
    Finset.fold IntOp.addi (0#32) f Finset.univ = ∑ i, f i := by
  rw [Finset.sum_eq_fold]; rfl

/-- The reference's largest magnitudes are the layer's. -/
theorem amaxV_apply (v : FVec Ideal S24576x8192 .f32) (t : Fin 24576) :
    amaxV v (ix1 t) = Spec.amax fun c => v (ix2 t c) := by
  unfold amaxV
  rw [Host.reduce_eq_fold]
  erw [Shape.ReducesTo.fold_fiber_r2_a1]
  have e : (constant S_ FTy.f32 (0xFF800000#32) : FVec Ideal S_ .f32) (Shape.Idx.first h_S_) = (⊥ : EReal) := lit_ninf
  rw [e]
  exact fold_max_eq_sup _

/-- The reference's scales are the layer's. -/
theorem scaleV_apply (a : FVec Ideal S24576 .f32) (t : Fin 24576) :
    scaleV a (ix2 t 0) = Spec.scaleOf (a (ix1 t)) := by
  unfold scaleV Spec.scaleOf
  pointwise
  rw [lit_127]
  refine ite_congr rfl (fun _ => rfl) fun _ => ?_
  exact Ideal.ofBits_one_f32

/-- The reference's codes are the layer's. -/
theorem codeV_apply (v : FVec Ideal S24576x8192 .f32) (s : FVec Ideal S24576x1 .f32) (t : Fin 24576) (c : Fin 8192) :
    codeV v s (ix2 t c) = Spec.codeOf (v (ix2 t c)) (s (ix2 t 0)) := by
  pointwise [codeV]
  have e1 : id (constant S_ FTy.f32 0x42FE0000#32 : FVec Ideal S_ .f32) ix0 = ((127 : ℝ) : EReal) := lit_127
  have e2 : id (constant S_ FTy.f32 0xC2FE0000#32 : FVec Ideal S_ .f32) ix0 = ((-127 : ℝ) : EReal) := lit_m127
  rw [e1, e2]
  rfl

/-- The integer products at an index. -/
theorem prodV_apply (q : IVec S24576x8192 8) (w : IVec S8192x1280 8) (t : Fin 24576) (c : Fin 8192) (n : Fin 1280) :
    prodV q w (ix3 t c n) = (q (ix2 t c)).signExtend 32 * (w (ix2 c n)).signExtend 32 := by
  pointwise [prodV]
  rfl

/-- The integer products' sums. -/
theorem accV_apply (u : IVec S24576x8192x1280 32) (t : Fin 24576) (n : Fin 1280) :
    accV u (ix2 t n) = ∑ c : Fin 8192, u (ix3 t c n) := by
  unfold accV
  rw [Host.reduce_eq_fold]
  erw [Shape.ReducesTo.fold_fiber_r3_a1]
  exact fold_add_eq_sum _

/-- The reference's outputs are the layer's. -/
theorem outV_apply (q : IVec S24576x8192 8) (s : FVec Ideal S24576x1 .f32) (w : IVec S8192x1280 8) (ws : FVec Ideal S1280 .f32)
    (t : Fin 24576) (n : Fin 1280) :
    outV (accV (prodV q w)) s ws (ix2 t n)
      = Spec.outOf (fun c => q (ix2 t c)) (s (ix2 t 0)) (fun c => w (ix2 c n)) (ws (ix1 n)) := by
  have hr : (accV (prodV q w) (ix2 t n)).toInt = ∑ c, (q (ix2 t c)).toInt * (w (ix2 c n)).toInt := by
    rw [accV_apply, ← Arith.toInt_sum_bytes _ _ (by rw [Fintype.card_fin]; decide)]
    exact congrArg BitVec.toInt (Finset.sum_congr rfl fun c _ => prodV_apply q w t c n)
  revert hr
  generalize accV (prodV q w) = r
  intro hr
  unfold Spec.outOf
  rw [← hr]
  pointwise [outV]
  rfl

end Cert.Ref

end
-- ==== Proof.Entry.lean ====
/-
  One block's results at an index: the rotated block, its scales, its codes and its products are the layer's (Spec.lean).
-/
module

public import proofs.«01_k».proof.Proof.Block
public import proofs.«01_k».proof.Proof.Ref

@[expose] public section

set_option maxRecDepth 16384

noncomputable section

namespace Cert.Entry

open Cert.KernelIdeal Cert.KernelIdeal.Gen Cert.Chain Cert.Block Idealize.ShloMosaic

/-- Chunk `k` of the rotated block at an index: the chunk's columns times the table, times the factor. -/
theorem rotAt_apply (X : Vec Ideal S256x8192 .bf16) (H : Vec Ideal S256x256 .bf16) (k : ℕ) (r j : Fin 256) :
    rotAt X H k (ix2 r j) = (∑ i : Fin 256, chunk X k (ix2 r i) * H (ix2 i j)) * Ideal.ofBits .f32 0x3DB504F3#32 := by
  unfold rotAt
  generalize chunk X k = C
  pointwise [k0_pay8]

/-- The reciprocal scales, twice over the lanes. -/
theorem inv_apply (S : Vec Ideal S256x128 .f32) (s : Fin 256 → EReal) (hS : ∀ r l, S (ix2 r l) = s r) (r j : Fin 256) :
    k0_pay5 S (ix2 r j) = Ideal.div 1 (s r) := by
  pointwise [k0_pay5]
  split_ifs <;> rw [hS]

/-- Chunk `k` of the codes at an index. -/
theorem codesAt_apply (R : Vec Ideal S256x8192 .f32) (S : Vec Ideal S256x128 .f32) (s : Fin 256 → EReal)
    (hS : ∀ r l, S (ix2 r l) = s r) (hs : ∀ r, s r ≠ 0) (k : ℕ) (r j : Fin 256) :
    codesAt R S k (ix2 r j) = Spec.codeOf (chunk R k (ix2 r j)) (s r) := by
  unfold codesAt
  have hi := inv_apply S s hS r j
  revert hi
  generalize chunk R k = C
  generalize k0_pay5 S = V
  intro hi
  pointwise [k0_pay17]
  have e1 : Ideal.ofBits FTy.f32 1123942400#32 = (((127 : ℤ) : ℝ) : EReal) := by rw [Ref.lit_127]; norm_num
  have e2 : Ideal.ofBits FTy.f32 3271426048#32 = (((-127 : ℤ) : ℝ) : EReal) := by rw [Ref.lit_m127]; norm_num
  rw [e1, e2, hi, Arith.mul_recip _ _ (hs r), Arith.round_clamp _ _ (by decide)]
  unfold Spec.codeOf
  norm_num
  rfl

/-- The product of one chunk at an index. -/
theorem part_apply (V : FVec Ideal S256x256 .f32) (C : Vec Ideal S256x256 .f32) (W : Vec Ideal S256x1280 .bf16)
    (r : Fin 256) (n : Fin 1280) :
    k0_pay18 V C W (ix2 r n) = ∑ i : Fin 256, (((k0_pay17 V C (ix2 r i)).toInt : ℝ) : EReal) * W (ix2 i n) := by
  unfold k0_pay18
  generalize k0_pay17 V C = Q
  pointwise
  rfl

/-- The outputs at an index. -/
theorem out_apply (S : Vec Ideal S256x128 .f32) (A : FVec Ideal S256x1280 .f32) (x3 : Vec Ideal S1x1280 .f32)
    (r : Fin 256) (n : Fin 1280) :
    k0_pay157 S A x3 (ix2 r n) = A (ix2 r n) * S (ix2 r 0) * x3 (ix2 0 n) := by
  pointwise [k0_pay157]

/-- The scales written out. -/
theorem scales_apply (S : Vec Ideal S256x128 .f32) (r : Fin 256) : k0_pay156 S (ix2 r 0) = S (ix2 r 0) := by
  pointwise [k0_pay156]

/-- The scales left to the next point. -/
theorem scale_apply (a b : FVec Ideal S256x256 .f32) (r : Fin 256) (l : Fin 128) :
    k0_pay1 (k0_pay158 a b) (ix2 r l)
      = Spec.scaleOf (Finset.univ.sup fun j : Fin 256 => max (a (ix2 r j)) (max (b (ix2 r j)) (-b (ix2 r j)))) := by
  pointwise [k0_pay1, k0_pay158]
  have e1 : Ideal.ofBits FTy.f32 1123942400#32 = ((127 : ℝ) : EReal) := Ref.lit_127
  have e2 : Ideal.ofBits FTy.f32 4286578688#32 = (⊥ : EReal) := Ref.lit_ninf
  rw [e1, e2]
  rfl

/-- The weights, converted. -/
theorem weights_apply (w : Vec Ideal S8192x1280 .i8) (c : Fin 8192) (n : Fin 1280) :
    k0_pay2 (F := Ideal) w (ix2 c n) = (((w (ix2 c n) : BitVec 8).toInt : ℝ) : EReal) := by
  pointwise [k0_pay2]
  rfl

/-- Row `r` of a block. -/
def row {e : EltTy} (X : Vec Ideal S256x8192 e) (r : Fin 256) : Fin 8192 → Elt Ideal e := fun c => X (ix2 r c)

/-- What the printed table is to the layer's Hadamard matrix: two copies on the diagonal, without the factor. -/
def IsTable (H : Vec Ideal S256x256 .bf16) : Prop :=
  ∀ i j : Fin 256,
    ((i : ℕ) / 128 = (j : ℕ) / 128 →
      H (ix2 i j) * Ideal.ofBits .f32 0x3DB504F3#32
        = Spec.hadamard ⟨(i : ℕ) % 128, Nat.mod_lt _ (by decide)⟩ ⟨(j : ℕ) % 128, Nat.mod_lt _ (by decide)⟩)
    ∧ ((i : ℕ) / 128 ≠ (j : ℕ) / 128 → H (ix2 i j) = (0 : EReal))

/-- A positive power of two times an integer, as a number. -/
theorem factor_facts : (0 : EReal) ≤ Ideal.ofBits .f32 0x3DB504F3#32 ∧ Ideal.ofBits .f32 0x3DB504F3#32 ≠ (⊤ : EReal) := by
  have e : Ideal.ofBits .f32 0x3DB504F3#32 = (((11863283 : ℝ) / 2 ^ 27 : ℝ) : EReal) := by
    simp [Ideal.ofBits, Ideal.ieee, -EReal.coe_mul]; norm_num
  rw [e]
  exact ⟨by exact_mod_cast (by positivity : (0 : ℝ) ≤ (11863283 : ℝ) / 2 ^ 27), EReal.coe_ne_top _⟩

/-- Chunk `k` of the rotated block is the layer's rotation at the chunk's columns. -/
theorem rotAt_entry (X : Vec Ideal S256x8192 .bf16) (H : Vec Ideal S256x256 .bf16) (hH : IsTable H) (k : ℕ) (hk : k < 32)
    (r j : Fin 256) :
    rotAt X H k (ix2 r j) = Spec.rot (row X r) ⟨256 * k + j, by have := j.2; omega⟩ := by
  have hj := j.2
  rw [rotAt_apply]
  have h := Arith.block_sum (fun i => X (ix2 r ⟨(256 * k + i) % 8192, Nat.mod_lt _ (by decide)⟩))
    (fun i => H (ix2 ⟨i % 256, Nat.mod_lt _ (by decide)⟩ j))
    (fun i => Spec.hadamard ⟨i % 128, Nat.mod_lt _ (by decide)⟩ ⟨(j : ℕ) % 128, Nat.mod_lt _ (by decide)⟩)
    (Ideal.ofBits .f32 0x3DB504F3#32) ((j : ℕ) / 128) (by omega) factor_facts.1 factor_facts.2
    (fun i hi => by
      have e := (hH ⟨(128 * ((j : ℕ) / 128) + i) % 256, Nat.mod_lt _ (by decide)⟩ j).1 (by
        show (128 * ((j : ℕ) / 128) + i) % 256 / 128 = _
        omega)
      refine e.trans ?_
      congr 2
      show (128 * ((j : ℕ) / 128) + i) % 256 % 128 = i % 128
      omega)
    (fun i hi hne => (hH ⟨i % 256, Nat.mod_lt _ (by decide)⟩ j).2 (by
      show i % 256 / 128 ≠ _
      rwa [Nat.mod_eq_of_lt hi]))
  have hl : ∀ i : Fin 256, chunk X k (ix2 r i) * H (ix2 i j)
      = X (ix2 r ⟨(256 * k + i) % 8192, Nat.mod_lt _ (by decide)⟩) * H (ix2 ⟨(i : ℕ) % 256, Nat.mod_lt _ (by decide)⟩ j) := by
    intro i
    have e : (⟨(i : ℕ) % 256, Nat.mod_lt _ (by decide)⟩ : Fin 256) = i := Fin.ext (Nat.mod_eq_of_lt i.2)
    rw [e]
    rfl
  rw [Finset.sum_congr rfl fun i _ => hl i]
  refine h.trans ?_
  unfold Spec.rot row
  refine Finset.sum_congr rfl fun i _ => ?_
  have hi := i.2
  congr 1
  · congr 2
    refine Fin.ext ?_
    show (256 * k + (128 * ((j : ℕ) / 128) + i)) % 8192 = 128 * ((256 * k + j) / 128) + i
    omega
  · congr 1
    · exact Fin.ext (Nat.mod_eq_of_lt hi)
    · refine Fin.ext ?_
      show (j : ℕ) % 128 = (256 * k + j) % 128
      omega

/-- The rotated block is the layer's rotation. -/
theorem rot_entry (X : Vec Ideal S256x8192 .bf16) (H : Vec Ideal S256x256 .bf16) (hH : IsTable H) (r : Fin 256) (c : Fin 8192) :
    ofChunks (e := .f32) (rotAt X H) (ix2 r c) = Spec.rot (row X r) c := by
  have hc := c.2
  refine (rotAt_entry X H hH ((c : ℕ) / 256) (by omega) r ⟨(c : ℕ) % 256, Nat.mod_lt _ (by decide)⟩).trans ?_
  congr 1
  refine Fin.ext ?_
  show 256 * ((c : ℕ) / 256) + (c : ℕ) % 256 = c
  omega

/-- The running largest magnitude is the supremum over the chunks so far. -/
theorem maxAt_apply (X : Vec Ideal S256x8192 .bf16) (H : Vec Ideal S256x256 .bf16) (r j : Fin 256) :
    ∀ n, maxAt X H n (ix2 r j) = (Finset.range (n + 1)).sup fun k => max (rotAt X H k (ix2 r j)) (-rotAt X H k (ix2 r j))
  | 0 => by simp [maxAt]; rfl
  | n + 1 => by
    rw [Finset.range_add_one, Finset.sup_insert, ← maxAt_apply X H r j n]
    exact max_comm _ _

/-- The scales left to the next point are the layer's scales. -/
theorem scale_entry (X : Vec Ideal S256x8192 .bf16) (H : Vec Ideal S256x256 .bf16) (hH : IsTable H) (r : Fin 256) (l : Fin 128) :
    k0_pay1 (k0_pay158 (maxAt X H 30) (rotAt X H 31)) (ix2 r l) = Spec.scale (row X r) := by
  rw [scale_apply]
  unfold Spec.scale Spec.amax
  congr 1
  have hlane : ∀ j : Fin 256, max (maxAt X H 30 (ix2 r j)) (max (rotAt X H 31 (ix2 r j)) (-rotAt X H 31 (ix2 r j)))
      = (Finset.range 32).sup fun k => max (rotAt X H k (ix2 r j)) (-rotAt X H k (ix2 r j)) := fun j => by
    rw [← maxAt_apply X H r j 31]
    rfl
  simp only [hlane]
  apply le_antisymm
  · refine Finset.sup_le fun j _ => Finset.sup_le fun k hk => ?_
    rw [rotAt_entry X H hH k (Finset.mem_range.mp hk)]
    exact Finset.le_sup (f := fun c => max (Spec.rot (row X r) c) (-Spec.rot (row X r) c)) (Finset.mem_univ _)
  · refine Finset.sup_le fun c _ => ?_
    have hc := c.2
    have e := rotAt_entry X H hH ((c : ℕ) / 256) (by omega) r ⟨(c : ℕ) % 256, Nat.mod_lt _ (by decide)⟩
    have ec : (⟨256 * ((c : ℕ) / 256) + (c : ℕ) % 256, by omega⟩ : Fin 8192) = c := Fin.ext (by
      show 256 * ((c : ℕ) / 256) + (c : ℕ) % 256 = c
      omega)
    change _ = Spec.rot (row X r) ⟨256 * ((c : ℕ) / 256) + (c : ℕ) % 256, _⟩ at e
    rw [ec] at e
    rw [← e]
    refine le_trans ?_ (Finset.le_sup (f := fun j => (Finset.range 32).sup fun k => max (rotAt X H k (ix2 r j)) (-rotAt X H k (ix2 r j)))
      (Finset.mem_univ (⟨(c : ℕ) % 256, Nat.mod_lt _ (by decide)⟩ : Fin 256)))
    exact Finset.le_sup (f := fun k => max (rotAt X H k (ix2 r ⟨(c : ℕ) % 256, Nat.mod_lt _ (by decide)⟩)) (-rotAt X H k (ix2 r ⟨(c : ℕ) % 256, Nat.mod_lt _ (by decide)⟩)))
      (Finset.mem_range.mpr (by omega : (c : ℕ) / 256 < 32))

/-- The codes are the layer's codes of the rotated block at its scales. -/
theorem code_entry (R : Vec Ideal S256x8192 .f32) (S : Vec Ideal S256x128 .f32) (s : Fin 256 → EReal)
    (hS : ∀ r l, S (ix2 r l) = s r) (hs : ∀ r, s r ≠ 0) (r : Fin 256) (c : Fin 8192) :
    ofChunks (e := .i8) (codesAt R S) (ix2 r c) = Spec.codeOf (R (ix2 r c)) (s r) := by
  have hc := c.2
  refine (codesAt_apply R S s hS hs ((c : ℕ) / 256) r ⟨(c : ℕ) % 256, Nat.mod_lt _ (by decide)⟩).trans ?_
  unfold chunk
  congr 2
  congr 1
  refine Fin.ext ?_
  show (256 * ((c : ℕ) / 256) + (c : ℕ) % 256) % 8192 = c
  omega

/-- The running sum of products is the sum over the chunks so far. -/
theorem accAt_apply (R : Vec Ideal S256x8192 .f32) (S : Vec Ideal S256x128 .f32) (W : Vec Ideal S8192x1280 .bf16)
    (r : Fin 256) (m : Fin 1280) :
    ∀ n, accAt R S W n (ix2 r m)
      = ∑ k ∈ Finset.range (n + 1), ∑ i : Fin 256, (((codesAt R S k (ix2 r i)).toInt : ℝ) : EReal) * wchunk W k (ix2 i m)
  | 0 => by
    rw [Finset.sum_range_one]
    exact part_apply _ _ _ r m
  | n + 1 => by
    rw [Finset.sum_range_succ, ← accAt_apply R S W r m n]
    exact congrArg (accAt R S W n (ix2 r m) + ·) (part_apply _ _ _ r m)

/-- The outputs are the layer's outputs of the codes, the scales and the weights. -/
theorem out_entry (R : Vec Ideal S256x8192 .f32) (S : Vec Ideal S256x128 .f32) (s : Fin 256 → EReal)
    (hS : ∀ r l, S (ix2 r l) = s r) (hs : ∀ r, s r ≠ 0) (w : Vec Ideal S8192x1280 .i8) (x3 : Vec Ideal S1x1280 .f32)
    (r : Fin 256) (m : Fin 1280) :
    k0_pay157 S (accAt R S (k0_pay2 (F := Ideal) w) 31) x3 (ix2 r m)
      = Spec.outOf (fun c => Spec.codeOf (R (ix2 r c)) (s r)) (s r) (fun c => w (ix2 c m)) (x3 (ix2 0 m)) := by
  rw [out_apply, hS, accAt_apply]
  unfold Spec.outOf
  congr 2
  rw [Arith.coe_sum, Finset.sum_range]
  let f : ℕ → EReal := fun c =>
    (((Spec.codeOf (R (ix2 r ⟨c % 8192, Nat.mod_lt _ (by decide)⟩)) (s r)).toInt : ℝ) : EReal)
      * (((w (ix2 ⟨c % 8192, Nat.mod_lt _ (by decide)⟩ m) : BitVec 8).toInt : ℝ) : EReal)
  have hr : ∀ c : Fin 8192, ((((Spec.codeOf (R (ix2 r c)) (s r)).toInt * (w (ix2 c m) : BitVec 8).toInt : ℤ) : ℝ) : EReal) = f c := by
    intro c
    have ec : (⟨(c : ℕ) % 8192, Nat.mod_lt _ (by decide)⟩ : Fin 8192) = c := Fin.ext (Nat.mod_eq_of_lt c.2)
    show _ = (((Spec.codeOf (R (ix2 r ⟨(c : ℕ) % 8192, _⟩)) (s r)).toInt : ℝ) : EReal) * (((w (ix2 ⟨(c : ℕ) % 8192, _⟩ m) : BitVec 8).toInt : ℝ) : EReal)
    rw [ec, Int.cast_mul, EReal.coe_mul]
  refine Eq.trans ?_ (Finset.sum_congr rfl fun c _ => (hr c).symm)
  refine Eq.trans ?_ (Arith.sum_groups 32 256 f).symm
  refine Finset.sum_congr rfl fun k _ => Finset.sum_congr rfl fun i _ => ?_
  rw [codesAt_apply R S s hS hs]
  show _ * wchunk _ _ _ = _
  unfold wchunk
  refine congrArg (_ * ·) ?_
  exact weights_apply w _ m

end Cert.Entry

end
-- ==== Proof.State.lean ====
/-
  What each grid point leaves: the carried buffers after any point hold the rotated block of that point, its scales and the
  converted weights, so a later point's results are those of the block before it.
-/
module

public import proofs.«01_k».proof.Proof.Entry
public import proofs.«01_k».proof.Proof.Gen.KernelIdeal.Value

@[expose] public section

noncomputable section

namespace Cert.State

open Cert.KernelIdeal Cert.KernelIdeal.Gen Cert.Chain Cert.Block Idealize.ShloMosaic

variable (m : (ℓ : Loc nD τ sig) → Buf (Elt Ideal) ℓ) (c : Dev nD)

/-- The rotated block of a point. -/
def R (t : Fin cfg0.N) : Vec Ideal S256x8192 .f32 := ofChunks (e := .f32) (rotAt (iblk m c 0 t) (iblk m c 1 t))

/-- The scales of a point's rotated block. -/
def S (t : Fin cfg0.N) : Vec Ideal S256x128 .f32 :=
  k0_pay1 (k0_pay158 (maxAt (iblk m c 0 t) (iblk m c 1 t) 30) (rotAt (iblk m c 0 t) (iblk m c 1 t) 31))

/-- After a point the first carried buffer holds the point's rotated block, -/
theorem carried_0 (t : Fin cfg0.N) : (outsAt0 m c t.val t.isLt).2.2.2.1 = R m c t := by
  by_cases h0 : t.val % 97 = 0
  · rw [outsAt0_A m c t h0]
    dsimp only
    rw [sout_A_0]
    rfl
  · rw [outsAt0_B m c t h0]
    dsimp only
    rw [sout_B_0]
    rfl

/-- the second its scales, -/
theorem carried_1 (t : Fin cfg0.N) : (outsAt0 m c t.val t.isLt).2.2.2.2.1 = S m c t := by
  by_cases h0 : t.val % 97 = 0
  · rw [outsAt0_A m c t h0]
    dsimp only
    rw [sout_A_1]
    rfl
  · rw [outsAt0_B m c t h0]
    dsimp only
    rw [sout_B_1]
    rfl

/-- and the third the converted weights of the first point. -/
theorem carried_2 : ∀ n (hn : n < cfg0.N),
    (outsAt0 m c n hn).2.2.2.2.2 = k0_pay2 (F := Ideal) (iblk m c 2 ⟨0, Nat.lt_of_le_of_lt (Nat.zero_le _) hn⟩)
  | 0, hn => by
    rw [outsAt0_A m c ⟨0, hn⟩ rfl]
    dsimp only
    rw [sout_A_2]
  | n + 1, hn => by
    have hN : cfg0.N = 97 := N_0
    rw [outsAt0_B m c ⟨n + 1, hn⟩ (by show ¬(n + 1) % 97 = 0; omega)]
    exact carried_2 n (Nat.lt_of_succ_lt hn)

/-- The point before. -/
def before (t : Fin cfg0.N) : Fin cfg0.N := ⟨t.val - 1, Nat.lt_of_le_of_lt (Nat.sub_le _ _) t.isLt⟩

/-- The converted weights. -/
def W (t : Fin cfg0.N) : Vec Ideal S8192x1280 .bf16 :=
  k0_pay2 (F := Ideal) (iblk m c 2 ⟨0, Nat.lt_of_le_of_lt (Nat.zero_le _) t.isLt⟩)

/-- A later point's outputs are those of the block before it, -/
theorem left_4 (t : Fin cfg0.N) (h0 : ¬t.val % 97 = 0) : (outsAt0 m c t.val t.isLt).1
    = k0_pay157 (S m c (before t)) (accAt (R m c (before t)) (S m c (before t)) (W m c t) 31) (iblk m c 3 t) := by
  rw [outsAt0_B m c t h0]
  dsimp only
  rw [out_B_4]
  have e0 := carried_0 m c (before t)
  have e1 := carried_1 m c (before t)
  have e2 := carried_2 m c (before t).val (before t).isLt
  unfold before at e0 e1 e2 ⊢
  dsimp only at e0 e1 e2
  rw [e0, e1, e2]
  rfl

/-- its codes too, -/
theorem left_5 (t : Fin cfg0.N) (h0 : ¬t.val % 97 = 0) : (outsAt0 m c t.val t.isLt).2.1
    = ofChunks (e := .i8) (codesAt (R m c (before t)) (S m c (before t))) := by
  rw [outsAt0_B m c t h0]
  dsimp only
  rw [out_B_5]
  have e0 := carried_0 m c (before t)
  have e1 := carried_1 m c (before t)
  unfold before at e0 e1 ⊢
  dsimp only at e0 e1
  rw [e0, e1]

/-- and its scales. -/
theorem left_6 (t : Fin cfg0.N) (h0 : ¬t.val % 97 = 0) : (outsAt0 m c t.val t.isLt).2.2.1
    = k0_pay156 (S m c (before t)) := by
  rw [outsAt0_B m c t h0]
  dsimp only
  rw [out_B_6]
  have e1 := carried_1 m c (before t)
  unfold before at e1 ⊢
  dsimp only at e1
  rw [e1]

end Cert.State

end
-- ==== Proof.Fits.lean ====
/-
  What it is for a word of the kernel's 256 × 256 Hadamard table to fit the reference's 128 × 128 one.
-/
module

public import proofs.«01_k».proof.KernelIdeal
public import proofs.«01_k».proof.ReferenceIdeal

@[expose] public section

set_option maxRecDepth 100000

noncomputable section

namespace Cert.Hadamard

/-- Whether the kernel's word at row `i`, column `j` fits the reference's: `±1` beside the same sign of the factor where
    the two lie in one group of 128, and zero where they do not. -/
def fits (i j : ℕ) (hi : i < 256) (hj : j < 256) : Bool :=
  let a := Cert.KernelIdeal.lit0 ⟨256 * i + j, by omega⟩
  let b := Cert.ReferenceIdeal.lit0 ⟨128 * (i % 128) + j % 128, by omega⟩
  if i / 128 = j / 128 then
    (a == 0x3F80#16 && b == 0x3DB504F3#32) || (a == 0xBF80#16 && b == 0xBDB504F3#32)
  else a == 0x0000#16 || a == 0x8000#16

end Cert.Hadamard

end
-- ==== Proof.Fits0.lean ====
/-
  The two printed Hadamard tables fit over rows 0 to 63 of the kernel's table.
-/
module

public import proofs.«01_k».proof.Proof.Fits

@[expose] public section

set_option maxRecDepth 100000

noncomputable section

namespace Cert.Hadamard

/-- Every word of rows 0 to 15 fits. -/
theorem fits_0 : ∀ i : Fin 16, ∀ j : Fin 256, fits (0 + i) j (by omega) (by omega) = true := by decide +kernel

/-- Every word of rows 16 to 31 fits. -/
theorem fits_1 : ∀ i : Fin 16, ∀ j : Fin 256, fits (16 + i) j (by omega) (by omega) = true := by decide +kernel

/-- Every word of rows 32 to 47 fits. -/
theorem fits_2 : ∀ i : Fin 16, ∀ j : Fin 256, fits (32 + i) j (by omega) (by omega) = true := by decide +kernel

/-- Every word of rows 48 to 63 fits. -/
theorem fits_3 : ∀ i : Fin 16, ∀ j : Fin 256, fits (48 + i) j (by omega) (by omega) = true := by decide +kernel

end Cert.Hadamard

end
-- ==== Proof.Fits1.lean ====
/-
  The two printed Hadamard tables fit over rows 64 to 127 of the kernel's table.
-/
module

public import proofs.«01_k».proof.Proof.Fits

@[expose] public section

set_option maxRecDepth 100000

noncomputable section

namespace Cert.Hadamard

/-- Every word of rows 64 to 79 fits. -/
theorem fits_4 : ∀ i : Fin 16, ∀ j : Fin 256, fits (64 + i) j (by omega) (by omega) = true := by decide +kernel

/-- Every word of rows 80 to 95 fits. -/
theorem fits_5 : ∀ i : Fin 16, ∀ j : Fin 256, fits (80 + i) j (by omega) (by omega) = true := by decide +kernel

/-- Every word of rows 96 to 111 fits. -/
theorem fits_6 : ∀ i : Fin 16, ∀ j : Fin 256, fits (96 + i) j (by omega) (by omega) = true := by decide +kernel

/-- Every word of rows 112 to 127 fits. -/
theorem fits_7 : ∀ i : Fin 16, ∀ j : Fin 256, fits (112 + i) j (by omega) (by omega) = true := by decide +kernel

end Cert.Hadamard

end
-- ==== Proof.Fits2.lean ====
/-
  The two printed Hadamard tables fit over rows 128 to 191 of the kernel's table.
-/
module

public import proofs.«01_k».proof.Proof.Fits

@[expose] public section

set_option maxRecDepth 100000

noncomputable section

namespace Cert.Hadamard

/-- Every word of rows 128 to 143 fits. -/
theorem fits_8 : ∀ i : Fin 16, ∀ j : Fin 256, fits (128 + i) j (by omega) (by omega) = true := by decide +kernel

/-- Every word of rows 144 to 159 fits. -/
theorem fits_9 : ∀ i : Fin 16, ∀ j : Fin 256, fits (144 + i) j (by omega) (by omega) = true := by decide +kernel

/-- Every word of rows 160 to 175 fits. -/
theorem fits_10 : ∀ i : Fin 16, ∀ j : Fin 256, fits (160 + i) j (by omega) (by omega) = true := by decide +kernel

/-- Every word of rows 176 to 191 fits. -/
theorem fits_11 : ∀ i : Fin 16, ∀ j : Fin 256, fits (176 + i) j (by omega) (by omega) = true := by decide +kernel

end Cert.Hadamard

end
-- ==== Proof.Fits3.lean ====
/-
  The two printed Hadamard tables fit over rows 192 to 255 of the kernel's table.
-/
module

public import proofs.«01_k».proof.Proof.Fits

@[expose] public section

set_option maxRecDepth 100000

noncomputable section

namespace Cert.Hadamard

/-- Every word of rows 192 to 207 fits. -/
theorem fits_12 : ∀ i : Fin 16, ∀ j : Fin 256, fits (192 + i) j (by omega) (by omega) = true := by decide +kernel

/-- Every word of rows 208 to 223 fits. -/
theorem fits_13 : ∀ i : Fin 16, ∀ j : Fin 256, fits (208 + i) j (by omega) (by omega) = true := by decide +kernel

/-- Every word of rows 224 to 239 fits. -/
theorem fits_14 : ∀ i : Fin 16, ∀ j : Fin 256, fits (224 + i) j (by omega) (by omega) = true := by decide +kernel

/-- Every word of rows 240 to 255 fits. -/
theorem fits_15 : ∀ i : Fin 16, ∀ j : Fin 256, fits (240 + i) j (by omega) (by omega) = true := by decide +kernel

end Cert.Hadamard

end
-- ==== Proof.Hadamard.lean ====
/-
  The two printed Hadamard tables fit: the kernel's 256 × 256 table holds the reference's 128 × 128 one, without its factor,
  twice on the diagonal, and zero elsewhere.
-/
module

public import proofs.«01_k».proof.Proof.Fits0
public import proofs.«01_k».proof.Proof.Fits1
public import proofs.«01_k».proof.Proof.Fits2
public import proofs.«01_k».proof.Proof.Fits3

@[expose] public section

noncomputable section

namespace Cert.Hadamard

/-- A word at equal rows. -/
theorem fits_congr {i i' j : ℕ} (e : i = i') (hi : i < 256) (hi' : i' < 256) (hj : j < 256) (h : fits i j hi hj = true) :
    fits i' j hi' hj = true := by
  subst e
  exact h

/-- Every word of the table fits. -/
theorem fits_all (i j : Fin 256) : fits i j i.2 j.2 = true := by
  have hi := i.2
  rcases Nat.lt_or_ge (i : ℕ) 16 with h0 | h0
  · exact fits_congr (by show 0 + ((i : ℕ) - 0) = i; omega) _ _ _ (fits_0 ⟨(i : ℕ) - 0, by omega⟩ j)
  rcases Nat.lt_or_ge (i : ℕ) 32 with h1 | h1
  · exact fits_congr (by show 16 + ((i : ℕ) - 16) = i; omega) _ _ _ (fits_1 ⟨(i : ℕ) - 16, by omega⟩ j)
  rcases Nat.lt_or_ge (i : ℕ) 48 with h2 | h2
  · exact fits_congr (by show 32 + ((i : ℕ) - 32) = i; omega) _ _ _ (fits_2 ⟨(i : ℕ) - 32, by omega⟩ j)
  rcases Nat.lt_or_ge (i : ℕ) 64 with h3 | h3
  · exact fits_congr (by show 48 + ((i : ℕ) - 48) = i; omega) _ _ _ (fits_3 ⟨(i : ℕ) - 48, by omega⟩ j)
  rcases Nat.lt_or_ge (i : ℕ) 80 with h4 | h4
  · exact fits_congr (by show 64 + ((i : ℕ) - 64) = i; omega) _ _ _ (fits_4 ⟨(i : ℕ) - 64, by omega⟩ j)
  rcases Nat.lt_or_ge (i : ℕ) 96 with h5 | h5
  · exact fits_congr (by show 80 + ((i : ℕ) - 80) = i; omega) _ _ _ (fits_5 ⟨(i : ℕ) - 80, by omega⟩ j)
  rcases Nat.lt_or_ge (i : ℕ) 112 with h6 | h6
  · exact fits_congr (by show 96 + ((i : ℕ) - 96) = i; omega) _ _ _ (fits_6 ⟨(i : ℕ) - 96, by omega⟩ j)
  rcases Nat.lt_or_ge (i : ℕ) 128 with h7 | h7
  · exact fits_congr (by show 112 + ((i : ℕ) - 112) = i; omega) _ _ _ (fits_7 ⟨(i : ℕ) - 112, by omega⟩ j)
  rcases Nat.lt_or_ge (i : ℕ) 144 with h8 | h8
  · exact fits_congr (by show 128 + ((i : ℕ) - 128) = i; omega) _ _ _ (fits_8 ⟨(i : ℕ) - 128, by omega⟩ j)
  rcases Nat.lt_or_ge (i : ℕ) 160 with h9 | h9
  · exact fits_congr (by show 144 + ((i : ℕ) - 144) = i; omega) _ _ _ (fits_9 ⟨(i : ℕ) - 144, by omega⟩ j)
  rcases Nat.lt_or_ge (i : ℕ) 176 with h10 | h10
  · exact fits_congr (by show 160 + ((i : ℕ) - 160) = i; omega) _ _ _ (fits_10 ⟨(i : ℕ) - 160, by omega⟩ j)
  rcases Nat.lt_or_ge (i : ℕ) 192 with h11 | h11
  · exact fits_congr (by show 176 + ((i : ℕ) - 176) = i; omega) _ _ _ (fits_11 ⟨(i : ℕ) - 176, by omega⟩ j)
  rcases Nat.lt_or_ge (i : ℕ) 208 with h12 | h12
  · exact fits_congr (by show 192 + ((i : ℕ) - 192) = i; omega) _ _ _ (fits_12 ⟨(i : ℕ) - 192, by omega⟩ j)
  rcases Nat.lt_or_ge (i : ℕ) 224 with h13 | h13
  · exact fits_congr (by show 208 + ((i : ℕ) - 208) = i; omega) _ _ _ (fits_13 ⟨(i : ℕ) - 208, by omega⟩ j)
  rcases Nat.lt_or_ge (i : ℕ) 240 with h14 | h14
  · exact fits_congr (by show 224 + ((i : ℕ) - 224) = i; omega) _ _ _ (fits_14 ⟨(i : ℕ) - 224, by omega⟩ j)
  exact fits_congr (by show 240 + ((i : ℕ) - 240) = i; omega) _ _ _ (fits_15 ⟨(i : ℕ) - 240, by omega⟩ j)

end Cert.Hadamard

end
-- ==== Proof.Inputs.lean ====
/-
  What a point's input blocks hold: 256 rows of the tokens, the Hadamard table, the weights and their scales.
-/
module

public import proofs.«01_k».proof.Proof.Entry
public import proofs.«01_k».proof.Proof.Gen.KernelIdeal.Value
public import Idealize.ShloMosaic.Lib.Pipeline.ValueKit.Geometry

@[expose] public section

set_option maxRecDepth 16384

noncomputable section

namespace Cert.Inputs

open Cert.KernelIdeal Cert.KernelIdeal.Gen Idealize.ShloMosaic Idealize.ShloMosaic.TcCoe

variable (m : (ℓ : Loc nD τ sig) → Buf (Elt Ideal) ℓ) (c : Dev nD)

/-- The block a point rotates is the point's number, or the last block at the last point. -/
theorem index_0 : ∀ t : Fin cfg0.N, win0_0.index t = ![min t.val 95, 0] := (by decide +kernel : ∀ t : Fin grid0.N, _)
/-- The other inputs are one block each. -/
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)

/-- The three arguments, as arrays. -/
abbrev tokens : FVec Ideal S8x3072x8192 .bf16 := m ((c : Thread nD τ).loc main_arg0)
abbrev weights : IVec S8192x1280 8 := m ((c : Thread nD τ).loc main_arg1)
abbrev wscales : FVec Ideal S1280 .f32 := m ((c : Thread nD τ).loc main_arg2)

/-- The tokens' array is the argument, one row per token. -/
theorem V_tokens : V m c main_v0 = shapeCast _ (tokens m c) shapeCasts_S8x3072x8192_S24576x8192 := rfl

/-- The table's array is the printed constant. -/
theorem V_table : V m c main_cst = fun i => Ideal.ofBits .bf16 (lit0 (S256x256.rowMajor i)) := rfl

/-- The weights' scales as one row. -/
theorem V_wscales : V m c main_v1 = shapeCast _ (wscales m c) shapeCasts_S1280_S1x1280 := rfl

/-- A row of a point's block of tokens. -/
theorem tokens_block (t : Fin cfg0.N) (r : Fin 256) (k : Fin 8192) :
    iblk m c 0 t (ix2 r k) = Ref.rows (tokens m c) ⟨256 * min t.val 95 + r, by have := r.2; omega⟩ k := by
  have e : ((cfg0.win 0).blk t).view.emb (ix2 r k) = (ix2 ⟨256 * min t.val 95 + r, by have := r.2; omega⟩ k : S24576x8192.Idx) := by
    blk_ext [index_0]
  show V m c main_v0 (((cfg0.win 0).blk t).view.emb (ix2 r k)) = _
  rw [e, V_tokens]
  generalize tokens m c = x
  unfold Ref.rows
  pointwise

/-- The block of the table is the table. -/
theorem table_block (t : Fin cfg0.N) (i j : Fin 256) :
    iblk m c 1 t (ix2 i j) = Ideal.ofBits .bf16 (lit0 ⟨256 * (i : ℕ) + j, by have := i.2; have := j.2; omega⟩) := by
  have e : ((cfg0.win 1).blk t).view.emb (ix2 i j) = (ix2 i j : S256x256.Idx) := by
    blk_ext [index_1]
  show V m c main_cst (((cfg0.win 1).blk t).view.emb (ix2 i j)) = _
  rw [e, V_table]
  have er : S256x256.rowMajor (ix2 i j) = (⟨256 * (i : ℕ) + j, by have := j.2; have := i.2; omega⟩ : Fin 65536) := by
    apply Fin.ext
    refine (Shape.rowMajor_val_two (d := ![256, 256]) (ix2 i j)).trans ?_
    show (i : ℕ) * 256 + j = 256 * (i : ℕ) + j
    omega
  exact congrArg (fun k => Ideal.ofBits .bf16 (lit0 k)) er

/-- The block of the weights is the weights. -/
theorem weights_block (t : Fin cfg0.N) (k : Fin 8192) (n : Fin 1280) : iblk m c 2 t (ix2 k n) = weights m c (ix2 k n) := by
  have e : ((cfg0.win 2).blk t).view.emb (ix2 k n) = (ix2 k n : S8192x1280.Idx) := by
    blk_ext [index_2]
  show V m c main_arg1 (((cfg0.win 2).blk t).view.emb (ix2 k n)) = _
  rw [e, V_main_arg1]

/-- The block of the weights' scales is those scales. -/
theorem wscales_block (t : Fin cfg0.N) (n : Fin 1280) : iblk m c 3 t (ix2 0 n) = wscales m c (ix1 n) := by
  have e : ((cfg0.win 3).blk t).view.emb (ix2 0 n) = (ix2 0 n : S1x1280.Idx) := by
    blk_ext [index_3]
  show V m c main_v1 (((cfg0.win 3).blk t).view.emb (ix2 0 n)) = _
  rw [e, V_wscales]
  generalize wscales m c = x
  pointwise

end Cert.Inputs

end
-- ==== Proof.Table.lean ====
/-
  The kernel's table as numbers: two copies of the layer's Hadamard matrix on the diagonal, without its factor.
-/
module

public import proofs.«01_k».proof.Proof.Hadamard
public import proofs.«01_k».proof.Proof.Inputs

@[expose] public section

set_option maxRecDepth 16384

noncomputable section

namespace Cert.Table

open Cert.KernelIdeal Cert.KernelIdeal.Gen Idealize.ShloMosaic Idealize.ShloMosaic.TcCoe

/-- The words of the two tables, as numbers. -/
theorem word_one : Ideal.ofBits .bf16 0x3F80#16 = ((1 : ℝ) : EReal) := by
  simp [Ideal.ofBits, Ideal.ieee, -EReal.coe_mul]; norm_num
theorem word_neg : Ideal.ofBits .bf16 0xBF80#16 = ((-1 : ℝ) : EReal) := by
  simp [Ideal.ofBits, Ideal.ieee, -EReal.coe_mul, -EReal.coe_neg]; norm_num
theorem word_zero : Ideal.ofBits .bf16 0x0000#16 = (0 : EReal) := by
  simp [Ideal.ofBits, Ideal.ieee]
theorem word_negzero : Ideal.ofBits .bf16 0x8000#16 = (0 : EReal) := by
  simp [Ideal.ofBits, Ideal.ieee]
theorem factor : Ideal.ofBits .f32 0x3DB504F3#32 = (((11863283 : ℝ) / 2 ^ 27 : ℝ) : EReal) := by
  simp [Ideal.ofBits, Ideal.ieee, -EReal.coe_mul]; norm_num
theorem factor_neg : Ideal.ofBits .f32 0xBDB504F3#32 = ((-((11863283 : ℝ) / 2 ^ 27) : ℝ) : EReal) := by
  simp [Ideal.ofBits, Ideal.ieee, -EReal.coe_mul, -EReal.coe_neg]; norm_num

/-- The table's words fit the layer's matrix. -/
theorem isTable (m : (ℓ : Loc nD τ sig) → Buf (Elt Ideal) ℓ) (c : Dev nD) (t : Fin cfg0.N) : Entry.IsTable (iblk m c 1 t) := by
  intro i j
  have h := Hadamard.fits_all i j
  unfold Hadamard.fits at h
  rw [Inputs.table_block]
  unfold Spec.hadamard
  dsimp only at h ⊢
  generalize Cert.KernelIdeal.lit0 _ = a at h ⊢
  generalize Cert.ReferenceIdeal.lit0 _ = b at h ⊢
  refine ⟨fun hij => ?_, fun hij => ?_⟩
  · rw [if_pos hij] at h
    simp only [Bool.or_eq_true, Bool.and_eq_true, beq_iff_eq] at h
    rcases h with ⟨ha, hb⟩ | ⟨ha, hb⟩
    · rw [ha, hb, word_one, EReal.coe_one, one_mul]
    · rw [ha, hb, word_neg, factor, factor_neg, ← EReal.coe_mul, neg_one_mul]
  · rw [if_neg hij] at h
    simp only [Bool.or_eq_true, beq_iff_eq] at h
    rcases h with ha | ha
    · rw [ha, word_zero]
    · rw [ha, word_negzero]

end Cert.Table

end
-- ==== Proof.Array.lean ====
/-
  The three result arrays after the run: the reference's results of the same arguments.
-/
module

public import proofs.«01_k».proof.Proof.State
public import proofs.«01_k».proof.Proof.Table

@[expose] public section

set_option maxRecDepth 16384

noncomputable section

namespace Cert.Array

open Cert.KernelIdeal Cert.KernelIdeal.Gen Cert.KernelIdeal.Value Cert.State Cert.Inputs Idealize.ShloMosaic
open Idealize.ShloMosaic.TcCoe

/-- A scale is never zero. -/
theorem scale_ne_zero (x : Fin 8192 → EReal) : Spec.scale x ≠ 0 :=
  Arith.scale_ne_zero _ _ (by exact_mod_cast (by norm_num : (0 : ℝ) < 127)) (EReal.coe_ne_top _)

/-- The reference's scales of the tokens, -/
def scales (x : FVec Ideal S8x3072x8192 .bf16) : FVec Ideal S24576x1 .f32 := Ref.scaleV (Ref.amaxV (Ref.rotV x))

/-- their codes, -/
def codes (x : FVec Ideal S8x3072x8192 .bf16) : IVec S24576x8192 8 := Ref.codeV (Ref.rotV x) (scales x)

/-- and the outputs. -/
def outs (x : FVec Ideal S8x3072x8192 .bf16) (w : IVec S8192x1280 8) (ws : FVec Ideal S1280 .f32) : FVec Ideal S24576x1280 .bf16 :=
  Ref.outV (Ref.accV (Ref.prodV (codes x) w)) (scales x) ws

/-- The reference's scale of a row is the layer's, -/
theorem scales_apply (x : FVec Ideal S8x3072x8192 .bf16) (q : Fin 24576) : scales x (ix2 q 0) = Spec.scale (Ref.rows x q) := by
  unfold scales Spec.scale
  rw [Ref.scaleV_apply, Ref.amaxV_apply]
  simp only [Ref.rotV_apply]

/-- its codes too, -/
theorem codes_apply (x : FVec Ideal S8x3072x8192 .bf16) (q : Fin 24576) (k : Fin 8192) :
    codes x (ix2 q k) = Spec.codeOf (Spec.rot (Ref.rows x q) k) (Spec.scale (Ref.rows x q)) := by
  unfold codes
  rw [Ref.codeV_apply, Ref.rotV_apply, scales_apply]

/-- and its outputs. -/
theorem outs_apply (x : FVec Ideal S8x3072x8192 .bf16) (w : IVec S8192x1280 8) (ws : FVec Ideal S1280 .f32)
    (q : Fin 24576) (n : Fin 1280) :
    outs x w ws (ix2 q n) = Spec.outOf (fun k => Spec.codeOf (Spec.rot (Ref.rows x q) k) (Spec.scale (Ref.rows x q)))
      (Spec.scale (Ref.rows x q)) (fun k => w (ix2 k n)) (ws (ix1 n)) := by
  unfold outs
  rw [Ref.outV_apply, scales_apply]
  simp only [codes_apply]

variable (m : (ℓ : Loc nD τ sig) → Buf (Elt Ideal) ℓ) (c : Dev nD)

/-- The row of the arrays that row `r` of a later point's results is. -/
def at_ (t : Fin cfg0.N) (r : Fin 256) : Fin 24576 :=
  ⟨256 * (t.val - 1) + r, by have := lt_of_lt_of_eq t.isLt (show cfg0.N = 97 from N_0); have := r.2; omega⟩

/-- The rows of the block before are the tokens of a later point's results. -/
theorem row_before (t : Fin cfg0.N) (r : Fin 256) :
    Entry.row (iblk m c 0 (before t)) r = Ref.rows (tokens m c) (at_ t r) := by
  funext k
  have hN := lt_of_lt_of_eq t.isLt (show cfg0.N = 97 from N_0)
  refine (tokens_block m c (before t) r k).trans ?_
  congr 1
  refine Fin.ext ?_
  show 256 * min (t.val - 1) 95 + (r : ℕ) = 256 * (t.val - 1) + r
  omega

/-- The block before, rotated, -/
theorem R_apply (t : Fin cfg0.N) (r : Fin 256) (k : Fin 8192) :
    R m c (before t) (ix2 r k) = Spec.rot (Ref.rows (tokens m c) (at_ t r)) k := by
  rw [← row_before m c t]
  exact Entry.rot_entry _ _ (Table.isTable m c _) r k

/-- and its scales. -/
theorem S_apply (t : Fin cfg0.N) (r : Fin 256) (l : Fin 128) :
    S m c (before t) (ix2 r l) = Spec.scale (Ref.rows (tokens m c) (at_ t r)) := by
  rw [← row_before m c t]
  exact Entry.scale_entry _ _ (Table.isTable m c _) r l

/-- A later point's outputs at an index, -/
theorem left_4_apply (t : Fin cfg0.N) (h0 : ¬t.val % 97 = 0) (r : Fin 256) (n : Fin 1280) :
    (outsAt0 m c t.val t.isLt).1 (ix2 r n) = outs (tokens m c) (weights m c) (wscales m c) (ix2 (at_ t r) n) := by
  rw [left_4 m c t h0, outs_apply]
  unfold W
  rw [Entry.out_entry _ _ (fun r => Spec.scale (Ref.rows (tokens m c) (at_ t r))) (S_apply m c t) fun _ => scale_ne_zero _]
  simp only [R_apply m c t, weights_block, wscales_block]

/-- its codes, -/
theorem left_5_apply (t : Fin cfg0.N) (h0 : ¬t.val % 97 = 0) (r : Fin 256) (k : Fin 8192) :
    (outsAt0 m c t.val t.isLt).2.1 (ix2 r k) = codes (tokens m c) (ix2 (at_ t r) k) := by
  rw [left_5 m c t h0, codes_apply,
    Entry.code_entry _ _ (fun r => Spec.scale (Ref.rows (tokens m c) (at_ t r))) (S_apply m c t) fun _ => scale_ne_zero _]
  rw [R_apply m c t]

/-- and its scales. -/
theorem left_6_apply (t : Fin cfg0.N) (h0 : ¬t.val % 97 = 0) (r : Fin 256) :
    (outsAt0 m c t.val t.isLt).2.2.1 (ix2 r 0) = scales (tokens m c) (ix2 (at_ t r) 0) := by
  rw [left_6 m c t h0, scales_apply, Entry.scales_apply, S_apply m c t]

/-- A point writes the block before its own. -/
theorem index_4 : ∀ t : Fin cfg0.N, win0_4.index t = ![t.val - 1, 0] := (by decide +kernel : ∀ t : Fin grid0.N, _)
theorem index_5 : ∀ t : Fin cfg0.N, win0_5.index t = ![t.val - 1, 0] := (by decide +kernel : ∀ t : Fin grid0.N, _)
theorem index_6 : ∀ t : Fin cfg0.N, win0_6.index t = ![t.val - 1, 0] := (by decide +kernel : ∀ t : Fin grid0.N, _)

/-- The first point writes nothing back: the second writes the same block. -/
theorem flush_4 : ∀ t : Fin cfg0.N, (cfg0.win 4).flush t = true → ¬t.val % 97 = 0 := (by decide +kernel : ∀ t : Fin grid0.N, _)
theorem flush_5 : ∀ t : Fin cfg0.N, (cfg0.win 5).flush t = true → ¬t.val % 97 = 0 := (by decide +kernel : ∀ t : Fin grid0.N, _)
theorem flush_6 : ∀ t : Fin cfg0.N, (cfg0.win 6).flush t = true → ¬t.val % 97 = 0 := (by decide +kernel : ∀ t : Fin grid0.N, _)

/-- The outputs' array after the run, -/
theorem final_4 : (dats m 0 c).arrAt 4 cfg0.N = outs (tokens m c) (weights m c) (wscales m c) := by
  refine (dats m 0 c).arrAt_eq_of_covers 4 _ (by decide +kernel) fun t hf y => ?_
  have h0 := flush_4 t hf
  have e : ((cfg0.win 4).blk t).view.emb y = (ix2 (at_ t (y 0)) (y 1) : S24576x1280.Idx) := by
    unfold at_
    blk_ext [index_4]
  have ey : y = ix2 (y 0) (y 1) := funext fun a => by match a with | ⟨0, _⟩ => rfl | ⟨1, _⟩ => rfl
  rw [e]
  refine Eq.trans ?_ ((congrArg (outsAt0 m c t.val t.isLt).1 ey).trans (left_4_apply m c t h0 (y 0) (y 1)))
  rw [after0_4]
  rfl

/-- the codes', -/
theorem final_5 : (dats m 0 c).arrAt 5 cfg0.N = codes (tokens m c) := by
  refine (dats m 0 c).arrAt_eq_of_covers 5 _ (by decide +kernel) fun t hf y => ?_
  have h0 := flush_5 t hf
  have e : ((cfg0.win 5).blk t).view.emb y = (ix2 (at_ t (y 0)) (y 1) : S24576x8192.Idx) := by
    unfold at_
    blk_ext [index_5]
  have ey : y = ix2 (y 0) (y 1) := funext fun a => by match a with | ⟨0, _⟩ => rfl | ⟨1, _⟩ => rfl
  rw [e]
  refine Eq.trans ?_ ((congrArg (outsAt0 m c t.val t.isLt).2.1 ey).trans (left_5_apply m c t h0 (y 0) (y 1)))
  rw [after0_5]
  rfl

/-- and the scales'. -/
theorem final_6 : (dats m 0 c).arrAt 6 cfg0.N = scales (tokens m c) := by
  refine (dats m 0 c).arrAt_eq_of_covers 6 _ (by decide +kernel) fun t hf y => ?_
  have h0 := flush_6 t hf
  have h1 : y 1 = (0 : Fin 1) := Subsingleton.elim (α := Fin 1) _ _
  have e : ((cfg0.win 6).blk t).view.emb y = (ix2 (at_ t (y 0)) (0 : Fin 1) : S24576x1.Idx) := by
    rw [← h1]
    unfold at_
    blk_ext [index_6]
  have ey : y = ix2 (y 0) (0 : Fin 1) := funext fun a => by match a with | ⟨0, _⟩ => rfl | ⟨1, _⟩ => exact h1
  rw [e]
  refine Eq.trans ?_ ((congrArg (outsAt0 m c t.val t.isLt).2.2.1 ey).trans (left_6_apply m c t h0 (y 0)))
  rw [after0_6]
  rfl

end Cert.Array

end
-- ==== Proof.Equation.lean ====
/-
  The two programs side by side: the kernel's run ends at the reference's three results, and so does the reference's.
-/
module

public import proofs.«01_k».proof.Defs
public import proofs.«01_k».proof.Proof.Array
public import proofs.«01_k».proof.Proof.Gen.ReferenceIdeal.Run
public import Idealize.ShloMosaic.Lib.Quiescent

@[expose] public section

set_option maxRecDepth 16384

noncomputable section

namespace Cert.Equation

open Idealize.ShloMosaic Idealize.ShloMosaic.TcCoe Idealize.SL.Sem

/-- The reference's run, with its three results as the layer's stages. -/
theorem reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v32)
            = Cert.Array.outs (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v17)
            = Cert.Array.codes (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v11)
            = Cert.Array.scales (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2) :=
  (θ_run Cert.ReferenceIdeal.defs _ _).mono (fun _ h c => ⟨(h c).1.trans rfl, (h c).2.1.trans rfl, (h c).2.2.1.trans rfl, (h c).2.2.2⟩)
    (Cert.ReferenceIdeal.Value.run (F := Ideal) m ρ)

/-- The reference leaves its arguments and no semaphore counter. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Every result of the kernel is the reference's. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Array.outs (Cert.Inputs.tokens m c) (Cert.Inputs.weights m c) (Cert.Inputs.wscales m c),
    fun c => Cert.Array.codes (Cert.Inputs.tokens m c), fun c => Cert.Array.scales (Cert.Inputs.tokens m c), ?_, ?_⟩
  · exact (θ_run Cert.KernelIdeal.defs _ _).mono
      (fun _ h c => ⟨(h c).1.trans (Cert.Array.final_4 m c), (h c).2.1.trans (Cert.Array.final_5 m c),
        (h c).2.2.1.trans (Cert.Array.final_6 m c), (h c).2.2.2⟩)
      (Cert.KernelIdeal.Value.run_blocks (F := Ideal) m ρ)
  · refine (θ_run Cert.ReferenceIdeal.defs _ _).mono (fun _ h c => ?_) (reference m' ρ')
    obtain ⟨h0, h1, h2, hk⟩ := h c
    obtain ⟨a0, a1, a2⟩ := hagree c
    rw [a0, a1, a2] at h0
    rw [a0] at h1 h2
    exact ⟨h0, h1, h2, hk⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim, with the witnesses of the programs' stated facts first. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.Equation.frame_reference,
    trivial, Cert.Equation.algebraic⟩

end Cert.Proof

end
